-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x20 : Shape := ⟨2, ![16384, 20]⟩
abbrev S367x128 : Shape := ⟨2, ![367, 128]⟩
abbrev S_ : Shape := ⟨0, ![]⟩

class Facts : Prop where
  bcast_S_S16384x20 : S_.BroadcastsInDim S16384x20 (![] : Fin 0 → Fin S16384x20.rank)
  reducesTo_S16384x20_S_d0_1 : S16384x20.ReducesTo [0, 1] S_
  h_S_ : 0 < S_.numel

variable [Facts]

def fn {F : FTy → Type} [FloatOps F] (main_arg0 : IVec S16384x20 32) (main_arg1 : FVec F S367x128 .f32) : IVec S_ 1 :=
  let main_c : IVec S_ 32 := constantI S_ 32 0#32
  let main_v0 : IVec S16384x20 32 := broadcastInDim S16384x20 ![] bcast_S_S16384x20 main_c
  let main_v1 : IVec S16384x20 1 := cmpi .sge main_arg0 main_v0
  let main_c_0 : IVec S_ 32 := constantI S_ 32 367#32
  let main_v2 : IVec S16384x20 32 := broadcastInDim S16384x20 ![] bcast_S_S16384x20 main_c_0
  let main_v3 : IVec S16384x20 1 := cmpi .slt main_arg0 main_v2
  let main_v4 : IVec S16384x20 1 := andi main_v1 main_v3
  let main_c_1 : IVec S_ 1 := constantI S_ 1 1#1
  let main_v5 : IVec S_ 1 := (fun x v => Host.reduce IntOp.andi x v reducesTo_S16384x20_S_d0_1 h_S_) main_v4 main_c_1
  main_v5
-- ==== Kernel.lean ====
abbrev S16384x20 : Shape := ⟨2, ![16384, 20]⟩
abbrev S367x128 : Shape := ⟨2, ![367, 128]⟩
abbrev S20x16384 : Shape := ⟨2, ![20, 16384]⟩
abbrev S20x16384x128 : Shape := ⟨3, ![20, 16384, 128]⟩
abbrev S20x512 : Shape := ⟨2, ![20, 512]⟩
abbrev S2x5x64x128 : Shape := ⟨4, ![2, 5, 64, 128]⟩
abbrev S_ : Shape := ⟨0, ![]⟩
abbrev S1x1x64x128 : Shape := ⟨4, ![1, 1, 64, 128]⟩
abbrev S64x128 : Shape := ⟨2, ![64, 128]⟩
abbrev S1x64 : Shape := ⟨2, ![1, 64]⟩
abbrev S64 : Shape := ⟨1, ![64]⟩
abbrev S1x64x128 : Shape := ⟨3, ![1, 64, 128]⟩
abbrev S16384x20x128 : Shape := ⟨3, ![16384, 20, 128]⟩

abbrev nBuf : Table → Nat
  | .hbm => 5
  | .shared => 1
  | .local .scVector .vmem => 2
  | _ => 0

abbrev bufTy : (tb : Table) → Fin (nBuf tb) → BufTy
  | .hbm, ⟨0, _⟩ => ⟨S16384x20, .i32⟩
  | .hbm, ⟨1, _⟩ => ⟨S367x128, .f32⟩
  | .hbm, ⟨2, _⟩ => ⟨S20x16384, .i32⟩
  | .hbm, ⟨3, _⟩ => ⟨S20x16384x128, .f32⟩
  | .hbm, ⟨4, _⟩ => ⟨S16384x20x128, .f32⟩
  | .shared, ⟨0, _⟩ => ⟨S367x128, .f32⟩
  | .local .scVector .vmem, ⟨0, _⟩ => ⟨S20x512, .i32⟩
  | .local .scVector .vmem, ⟨1, _⟩ => ⟨S2x5x64x128, .f32⟩
  | _, _ => ⟨S16384x20, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 5 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch2 : Ref sig .scVector := ⟨.shared, 0, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_111_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
def k0_off2 (c0_i32_1 : BitVec 32) (c0_i32_2 : BitVec 32) : Fin 2 → Nat :=
  let c3_i32 : BitVec 32 := 3#32
  let v6 : BitVec 32 := Scalar.shrui c0_i32_1 c3_i32
  let c7_i32 : BitVec 32 := 7#32
  let v7 : BitVec 32 := Scalar.andi c0_i32_2 c7_i32
  let c64_i32 : BitVec 32 := 64#32
  let v8 : BitVec 32 := Scalar.muli v7 c64_i32
  ![v6.toNat, v8.toNat]
def k0_off2_at (r : Fin 5) : BitVec 32 × BitVec 32 :=
  if r.val < 2 then
    if r.val < 1 then
      (0#32, 0#32)
    else
      (1#32, 1#32)
  else
    if r.val < 3 then
      (2#32, 2#32)
    else
      if r.val < 4 then
        (3#32, 3#32)
      else
        (4#32, 4#32)
@[reducible] def k0_t1_loop : Scf.Loop 32 :=
  let c0_i32_52 : BitVec 32 := 0#32
  let c32_i32 : BitVec 32 := 32#32
  let v46 : BitVec 32 := Scalar.addi c0_i32_52 c32_i32
  let c1_i32_53 : BitVec 32 := 1#32
  ⟨c0_i32_52, v46, c1_i32_53⟩
def k0_off3 (k0_t1 : Fin k0_t1_loop.trips) : Fin 4 → Nat :=
  let c0_i32_52 : BitVec 32 := 0#32
  let c1_i32_53 : BitVec 32 := 1#32
  let arg10 : BitVec 32 := Scf.iv c0_i32_52 c1_i32_53 k0_t1
  let c2_i32_111 : BitVec 32 := 2#32
  let v108 : BitVec 32 := Scalar.remsi arg10 c2_i32_111
  let c0_i32_116 : BitVec 32 := 0#32
  let c0_i32_117 : BitVec 32 := 0#32
  let c0_i32_118 : BitVec 32 := 0#32
  ![v108.toNat, 0, 0, 0]
def k0_off4 (k0_t1 : Fin k0_t1_loop.trips) (c0_i32_112 : BitVec 32) : Fin 2 → Nat :=
  let c0_i32_52 : BitVec 32 := 0#32
  let c1_i32_53 : BitVec 32 := 1#32
  let arg10 : BitVec 32 := Scf.iv c0_i32_52 c1_i32_53 k0_t1
  let c5_i32 : BitVec 32 := 5#32
  let v109 : BitVec 32 := Scalar.muli arg10 c5_i32
  let v110 : BitVec 32 := Scalar.addi v109 c0_i32_112
  let c3_i32_113 : BitVec 32 := 3#32
  let v111 : BitVec 32 := Scalar.shrui v110 c3_i32_113
  let c7_i32_114 : BitVec 32 := 7#32
  let v112 : BitVec 32 := Scalar.andi v110 c7_i32_114
  let c64_i32_115 : BitVec 32 := 64#32
  let v113 : BitVec 32 := Scalar.muli v112 c64_i32_115
  ![v111.toNat, v113.toNat]
def k0_off5 (k0_t1 : Fin k0_t1_loop.trips) : Fin 4 → Nat :=
  let c0_i32_52 : BitVec 32 := 0#32
  let c1_i32_53 : BitVec 32 := 1#32
  let arg10 : BitVec 32 := Scf.iv c0_i32_52 c1_i32_53 k0_t1
  let c2_i32_111 : BitVec 32 := 2#32
  let v108 : BitVec 32 := Scalar.remsi arg10 c2_i32_111
  let c1_i32_126 : BitVec 32 := 1#32
  let c0_i32_127 : BitVec 32 := 0#32
  let c0_i32_128 : BitVec 32 := 0#32
  ![v108.toNat, 1, 0, 0]
def k0_off6 (k0_t1 : Fin k0_t1_loop.trips) : Fin 4 → Nat :=
  let c0_i32_52 : BitVec 32 := 0#32
  let c1_i32_53 : BitVec 32 := 1#32
  let arg10 : BitVec 32 := Scf.iv c0_i32_52 c1_i32_53 k0_t1
  let c2_i32_111 : BitVec 32 := 2#32
  let v108 : BitVec 32 := Scalar.remsi arg10 c2_i32_111
  let c2_i32_136 : BitVec 32 := 2#32
  let c0_i32_137 : BitVec 32 := 0#32
  let c0_i32_138 : BitVec 32 := 0#32
  ![v108.toNat, 2, 0, 0]
def k0_off7 (k0_t1 : Fin k0_t1_loop.trips) : Fin 4 → Nat :=
  let c0_i32_52 : BitVec 32 := 0#32
  let c1_i32_53 : BitVec 32 := 1#32
  let arg10 : BitVec 32 := Scf.iv c0_i32_52 c1_i32_53 k0_t1
  let c2_i32_111 : BitVec 32 := 2#32
  let v108 : BitVec 32 := Scalar.remsi arg10 c2_i32_111
  let c3_i32_146 : BitVec 32 := 3#32
  let c0_i32_147 : BitVec 32 := 0#32
  let c0_i32_148 : BitVec 32 := 0#32
  ![v108.toNat, 3, 0, 0]
def k0_off8 (k0_t1 : Fin k0_t1_loop.trips) : Fin 4 → Nat :=
  let c0_i32_52 : BitVec 32 := 0#32
  let c1_i32_53 : BitVec 32 := 1#32
  let arg10 : BitVec 32 := Scf.iv c0_i32_52 c1_i32_53 k0_t1
  let c2_i32_111 : BitVec 32 := 2#32
  let v108 : BitVec 32 := Scalar.remsi arg10 c2_i32_111
  let c4_i32_156 : BitVec 32 := 4#32
  let c0_i32_157 : BitVec 32 := 0#32
  let c0_i32_158 : BitVec 32 := 0#32
  ![v108.toNat, 4, 0, 0]
def k0_cond2 (k0_t1 : Fin k0_t1_loop.trips) : BitVec 1 :=
  let c0_i32_52 : BitVec 32 := 0#32
  let c1_i32_53 : BitVec 32 := 1#32
  let arg10 : BitVec 32 := Scf.iv c0_i32_52 c1_i32_53 k0_t1
  let c1_i32_161 : BitVec 32 := 1#32
  let v159 : BitVec 1 := Scalar.cmpi .sge arg10 c1_i32_161
  let v160 : BitVec 32 := Scalar.extui v159
  let c0_i32_162 : BitVec 32 := 0#32
  let v161 : BitVec 1 := Scalar.cmpi .ne v160 c0_i32_162
  v161

def k0_off9 (k0_t1 : Fin k0_t1_loop.trips) : Fin 4 → Nat :=
  let c1_i32_227 : BitVec 32 := 1#32
  let c0_i32_52 : BitVec 32 := 0#32
  let c1_i32_53 : BitVec 32 := 1#32
  let arg10 : BitVec 32 := Scf.iv c0_i32_52 c1_i32_53 k0_t1
  let c2_i32_111 : BitVec 32 := 2#32
  let v108 : BitVec 32 := Scalar.remsi arg10 c2_i32_111
  let v237 : BitVec 32 := Scalar.subi c1_i32_227 v108
  let c0_i32_233 : BitVec 32 := 0#32
  let c0_i32_234 : BitVec 32 := 0#32
  let c0_i32_235 : BitVec 32 := 0#32
  ![v237.toNat, 0, 0, 0]
def k0_off10 (i : grid0.Coords) (k0_t1 : Fin k0_t1_loop.trips) (c0_i32_229 : BitVec 32) : Fin 3 → Nat :=
  let c0_i32_52 : BitVec 32 := 0#32
  let c1_i32_53 : BitVec 32 := 1#32
  let arg10 : BitVec 32 := Scf.iv c0_i32_52 c1_i32_53 k0_t1
  let c1_i32_226 : BitVec 32 := 1#32
  let v236 : BitVec 32 := Scalar.subi arg10 c1_i32_226
  let c5_i32_228 : BitVec 32 := 5#32
  let v238 : BitVec 32 := Scalar.muli v236 c5_i32_228
  let v239 : BitVec 32 := Scalar.addi v238 c0_i32_229
  let c3_i32_230 : BitVec 32 := 3#32
  let v240 : BitVec 32 := Scalar.shrui v239 c3_i32_230
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c7_i32_231 : BitVec 32 := 7#32
  let v241 : BitVec 32 := Scalar.andi v239 c7_i32_231
  let c64_i32_232 : BitVec 32 := 64#32
  let v242 : BitVec 32 := Scalar.muli v241 c64_i32_232
  let v243 : BitVec 32 := Scalar.addi v2 v242
  let c0_i32_236 : BitVec 32 := 0#32
  ![v240.toNat, v243.toNat, 0]
def k0_off11 (k0_t1 : Fin k0_t1_loop.trips) : Fin 4 → Nat :=
  let c1_i32_227 : BitVec 32 := 1#32
  let c0_i32_52 : BitVec 32 := 0#32
  let c1_i32_53 : BitVec 32 := 1#32
  let arg10 : BitVec 32 := Scf.iv c0_i32_52 c1_i32_53 k0_t1
  let c2_i32_111 : BitVec 32 := 2#32
  let v108 : BitVec 32 := Scalar.remsi arg10 c2_i32_111
  let v237 : BitVec 32 := Scalar.subi c1_i32_227 v108
  let c1_i32_245 : BitVec 32 := 1#32
  let c0_i32_246 : BitVec 32 := 0#32
  let c0_i32_247 : BitVec 32 := 0#32
  ![v237.toNat, 1, 0, 0]
def k0_off12 (k0_t1 : Fin k0_t1_loop.trips) : Fin 4 → Nat :=
  let c1_i32_227 : BitVec 32 := 1#32
  let c0_i32_52 : BitVec 32 := 0#32
  let c1_i32_53 : BitVec 32 := 1#32
  let arg10 : BitVec 32 := Scf.iv c0_i32_52 c1_i32_53 k0_t1
  let c2_i32_111 : BitVec 32 := 2#32
  let v108 : BitVec 32 := Scalar.remsi arg10 c2_i32_111
  let v237 : BitVec 32 := Scalar.subi c1_i32_227 v108
  let c2_i32_257 : BitVec 32 := 2#32
  let c0_i32_258 : BitVec 32 := 0#32
  let c0_i32_259 : BitVec 32 := 0#32
  ![v237.toNat, 2, 0, 0]
def k0_off13 (k0_t1 : Fin k0_t1_loop.trips) : Fin 4 → Nat :=
  let c1_i32_227 : BitVec 32 := 1#32
  let c0_i32_52 : BitVec 32 := 0#32
  let c1_i32_53 : BitVec 32 := 1#32
  let arg10 : BitVec 32 := Scf.iv c0_i32_52 c1_i32_53 k0_t1
  let c2_i32_111 : BitVec 32 := 2#32
  let v108 : BitVec 32 := Scalar.remsi arg10 c2_i32_111
  let v237 : BitVec 32 := Scalar.subi c1_i32_227 v108
  let c3_i32_269 : BitVec 32 := 3#32
  let c0_i32_270 : BitVec 32 := 0#32
  let c0_i32_271 : BitVec 32 := 0#32
  ![v237.toNat, 3, 0, 0]
def k0_off14 (k0_t1 : Fin k0_t1_loop.trips) : Fin 4 → Nat :=
  let c1_i32_227 : BitVec 32 := 1#32
  let c0_i32_52 : BitVec 32 := 0#32
  let c1_i32_53 : BitVec 32 := 1#32
  let arg10 : BitVec 32 := Scf.iv c0_i32_52 c1_i32_53 k0_t1
  let c2_i32_111 : BitVec 32 := 2#32
  let v108 : BitVec 32 := Scalar.remsi arg10 c2_i32_111
  let v237 : BitVec 32 := Scalar.subi c1_i32_227 v108
  let c4_i32_281 : BitVec 32 := 4#32
  let c0_i32_282 : BitVec 32 := 0#32
  let c0_i32_283 : BitVec 32 := 0#32
  ![v237.toNat, 4, 0, 0]
def k0_cond3 (k0_t1 : Fin k0_t1_loop.trips) : BitVec 1 :=
  let c0_i32_52 : BitVec 32 := 0#32
  let c1_i32_53 : BitVec 32 := 1#32
  let arg10 : BitVec 32 := Scf.iv c0_i32_52 c1_i32_53 k0_t1
  let c1_i32_163 : BitVec 32 := 1#32
  let v162 : BitVec 32 := Scalar.addi arg10 c1_i32_163
  let c32_i32_164 : BitVec 32 := 32#32
  let v163 : BitVec 1 := Scalar.cmpi .slt v162 c32_i32_164
  let v164 : BitVec 32 := Scalar.extui v163
  let c0_i32_165 : BitVec 32 := 0#32
  let v165 : BitVec 1 := Scalar.cmpi .ne v164 c0_i32_165
  v165

def k0_off15 (k0_t1 : Fin k0_t1_loop.trips) : Fin 4 → Nat :=
  let c1_i32_227 : BitVec 32 := 1#32
  let c0_i32_52 : BitVec 32 := 0#32
  let c1_i32_53 : BitVec 32 := 1#32
  let arg10 : BitVec 32 := Scf.iv c0_i32_52 c1_i32_53 k0_t1
  let c2_i32_111 : BitVec 32 := 2#32
  let v108 : BitVec 32 := Scalar.remsi arg10 c2_i32_111
  let v237 : BitVec 32 := Scalar.subi c1_i32_227 v108
  let c0_i32_233 : BitVec 32 := 0#32
  let c0_i32_234 : BitVec 32 := 0#32
  let c0_i32_235 : BitVec 32 := 0#32
  ![v237.toNat, 0, 0, 0]
def k0_off16 (k0_t1 : Fin k0_t1_loop.trips) (c0_i32_229 : BitVec 32) : Fin 2 → Nat :=
  let c0_i32_52 : BitVec 32 := 0#32
  let c1_i32_53 : BitVec 32 := 1#32
  let arg10 : BitVec 32 := Scf.iv c0_i32_52 c1_i32_53 k0_t1
  let c1_i32_226 : BitVec 32 := 1#32
  let v236 : BitVec 32 := Scalar.addi arg10 c1_i32_226
  let c5_i32_228 : BitVec 32 := 5#32
  let v238 : BitVec 32 := Scalar.muli v236 c5_i32_228
  let v239 : BitVec 32 := Scalar.addi v238 c0_i32_229
  let c3_i32_230 : BitVec 32 := 3#32
  let v240 : BitVec 32 := Scalar.shrui v239 c3_i32_230
  let c7_i32_231 : BitVec 32 := 7#32
  let v241 : BitVec 32 := Scalar.andi v239 c7_i32_231
  let c64_i32_232 : BitVec 32 := 64#32
  let v242 : BitVec 32 := Scalar.muli v241 c64_i32_232
  ![v240.toNat, v242.toNat]
def k0_off17 (k0_t1 : Fin k0_t1_loop.trips) : Fin 4 → Nat :=
  let c1_i32_227 : BitVec 32 := 1#32
  let c0_i32_52 : BitVec 32 := 0#32
  let c1_i32_53 : BitVec 32 := 1#32
  let arg10 : BitVec 32 := Scf.iv c0_i32_52 c1_i32_53 k0_t1
  let c2_i32_111 : BitVec 32 := 2#32
  let v108 : BitVec 32 := Scalar.remsi arg10 c2_i32_111
  let v237 : BitVec 32 := Scalar.subi c1_i32_227 v108
  let c1_i32_243 : BitVec 32 := 1#32
  let c0_i32_244 : BitVec 32 := 0#32
  let c0_i32_245 : BitVec 32 := 0#32
  ![v237.toNat, 1, 0, 0]
def k0_off18 (k0_t1 : Fin k0_t1_loop.trips) : Fin 4 → Nat :=
  let c1_i32_227 : BitVec 32 := 1#32
  let c0_i32_52 : BitVec 32 := 0#32
  let c1_i32_53 : BitVec 32 := 1#32
  let arg10 : BitVec 32 := Scf.iv c0_i32_52 c1_i32_53 k0_t1
  let c2_i32_111 : BitVec 32 := 2#32
  let v108 : BitVec 32 := Scalar.remsi arg10 c2_i32_111
  let v237 : BitVec 32 := Scalar.subi c1_i32_227 v108
  let c2_i32_253 : BitVec 32 := 2#32
  let c0_i32_254 : BitVec 32 := 0#32
  let c0_i32_255 : BitVec 32 := 0#32
  ![v237.toNat, 2, 0, 0]
def k0_off19 (k0_t1 : Fin k0_t1_loop.trips) : Fin 4 → Nat :=
  let c1_i32_227 : BitVec 32 := 1#32
  let c0_i32_52 : BitVec 32 := 0#32
  let c1_i32_53 : BitVec 32 := 1#32
  let arg10 : BitVec 32 := Scf.iv c0_i32_52 c1_i32_53 k0_t1
  let c2_i32_111 : BitVec 32 := 2#32
  let v108 : BitVec 32 := Scalar.remsi arg10 c2_i32_111
  let v237 : BitVec 32 := Scalar.subi c1_i32_227 v108
  let c3_i32_263 : BitVec 32 := 3#32
  let c0_i32_264 : BitVec 32 := 0#32
  let c0_i32_265 : BitVec 32 := 0#32
  ![v237.toNat, 3, 0, 0]
def k0_off20 (k0_t1 : Fin k0_t1_loop.trips) : Fin 4 → Nat :=
  let c1_i32_227 : BitVec 32 := 1#32
  let c0_i32_52 : BitVec 32 := 0#32
  let c1_i32_53 : BitVec 32 := 1#32
  let arg10 : BitVec 32 := Scf.iv c0_i32_52 c1_i32_53 k0_t1
  let c2_i32_111 : BitVec 32 := 2#32
  let v108 : BitVec 32 := Scalar.remsi arg10 c2_i32_111
  let v237 : BitVec 32 := Scalar.subi c1_i32_227 v108
  let c4_i32_273 : BitVec 32 := 4#32
  let c0_i32_274 : BitVec 32 := 0#32
  let c0_i32_275 : BitVec 32 := 0#32
  ![v237.toNat, 4, 0, 0]
def k0_off21 (i : grid0.Coords) (k0_t1 : Fin k0_t1_loop.trips) (c0_i32_167 : BitVec 32) : Fin 3 → Nat :=
  let c0_i32_52 : BitVec 32 := 0#32
  let c1_i32_53 : BitVec 32 := 1#32
  let arg10 : BitVec 32 := Scf.iv c0_i32_52 c1_i32_53 k0_t1
  let c5_i32_166 : BitVec 32 := 5#32
  let v166 : BitVec 32 := Scalar.muli arg10 c5_i32_166
  let v167 : BitVec 32 := Scalar.addi v166 c0_i32_167
  let c3_i32_168 : BitVec 32 := 3#32
  let v168 : BitVec 32 := Scalar.shrui v167 c3_i32_168
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c7_i32_169 : BitVec 32 := 7#32
  let v169 : BitVec 32 := Scalar.andi v167 c7_i32_169
  let c64_i32_170 : BitVec 32 := 64#32
  let v170 : BitVec 32 := Scalar.muli v169 c64_i32_170
  let v171 : BitVec 32 := Scalar.addi v2 v170
  let c0_i32_174 : BitVec 32 := 0#32
  ![v168.toNat, v171.toNat, 0]
def k0_off22 : Fin 4 → Nat :=
  let c31_i32 : BitVec 32 := 31#32
  let c2_i32_55 : BitVec 32 := 2#32
  let v47 : BitVec 32 := Scalar.remsi c31_i32 c2_i32_55
  let c0_i32_60 : BitVec 32 := 0#32
  let c0_i32_61 : BitVec 32 := 0#32
  let c0_i32_62 : BitVec 32 := 0#32
  ![v47.toNat, 0, 0, 0]
def k0_off23 (i : grid0.Coords) (c155_i32 : BitVec 32) (c155_i32_57 : BitVec 32) : Fin 3 → Nat :=
  let c3_i32_56 : BitVec 32 := 3#32
  let v48 : BitVec 32 := Scalar.shrui c155_i32 c3_i32_56
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c7_i32_58 : BitVec 32 := 7#32
  let v49 : BitVec 32 := Scalar.andi c155_i32_57 c7_i32_58
  let c64_i32_59 : BitVec 32 := 64#32
  let v50 : BitVec 32 := Scalar.muli v49 c64_i32_59
  let v51 : BitVec 32 := Scalar.addi v2 v50
  let c0_i32_63 : BitVec 32 := 0#32
  ![v48.toNat, v51.toNat, 0]
def k0_off23_at (r : Fin 5) : BitVec 32 × BitVec 32 :=
  if r.val < 2 then
    if r.val < 1 then
      (155#32, 155#32)
    else
      (156#32, 156#32)
  else
    if r.val < 3 then
      (157#32, 157#32)
    else
      if r.val < 4 then
        (158#32, 158#32)
      else
        (159#32, 159#32)
def k0_off24 : Fin 4 → Nat :=
  let c31_i32 : BitVec 32 := 31#32
  let c2_i32_55 : BitVec 32 := 2#32
  let v47 : BitVec 32 := Scalar.remsi c31_i32 c2_i32_55
  let c1_i32_71 : BitVec 32 := 1#32
  let c0_i32_72 : BitVec 32 := 0#32
  let c0_i32_73 : BitVec 32 := 0#32
  ![v47.toNat, 1, 0, 0]
def k0_off25 : Fin 4 → Nat :=
  let c31_i32 : BitVec 32 := 31#32
  let c2_i32_55 : BitVec 32 := 2#32
  let v47 : BitVec 32 := Scalar.remsi c31_i32 c2_i32_55
  let c2_i32_82 : BitVec 32 := 2#32
  let c0_i32_83 : BitVec 32 := 0#32
  let c0_i32_84 : BitVec 32 := 0#32
  ![v47.toNat, 2, 0, 0]
def k0_off26 : Fin 4 → Nat :=
  let c31_i32 : BitVec 32 := 31#32
  let c2_i32_55 : BitVec 32 := 2#32
  let v47 : BitVec 32 := Scalar.remsi c31_i32 c2_i32_55
  let c3_i32_93 : BitVec 32 := 3#32
  let c0_i32_94 : BitVec 32 := 0#32
  let c0_i32_95 : BitVec 32 := 0#32
  ![v47.toNat, 3, 0, 0]
def k0_off27 : Fin 4 → Nat :=
  let c31_i32 : BitVec 32 := 31#32
  let c2_i32_55 : BitVec 32 := 2#32
  let v47 : BitVec 32 := Scalar.remsi c31_i32 c2_i32_55
  let c4_i32_104 : BitVec 32 := 4#32
  let c0_i32_105 : BitVec 32 := 0#32
  let c0_i32_106 : BitVec 32 := 0#32
  ![v47.toNat, 4, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x20 : Shape := ⟨2, ![16384, 20]⟩
abbrev S367x128 : Shape := ⟨2, ![367, 128]⟩
abbrev S_ : Shape := ⟨0, ![]⟩
abbrev S16384x20x1 : Shape := ⟨3, ![16384, 20, 1]⟩
abbrev S1 : Shape := ⟨1, ![1]⟩
abbrev S1x1x1 : Shape := ⟨3, ![1, 1, 1]⟩
abbrev S16384x20x128 : Shape := ⟨3, ![16384, 20, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384x20, .i32⟩
  | .hbm, ⟨1, _⟩ => ⟨S367x128, .f32⟩
  | .hbm, ⟨2, _⟩ => ⟨S_, .i32⟩
  | .hbm, ⟨3, _⟩ => ⟨S16384x20, .i32⟩
  | .hbm, ⟨4, _⟩ => ⟨S16384x20, .i1⟩
  | .hbm, ⟨5, _⟩ => ⟨S_, .i32⟩
  | .hbm, ⟨6, _⟩ => ⟨S16384x20, .i32⟩
  | .hbm, ⟨7, _⟩ => ⟨S16384x20, .i32⟩
  | .hbm, ⟨8, _⟩ => ⟨S16384x20, .i32⟩
  | .hbm, ⟨9, _⟩ => ⟨S16384x20x1, .i32⟩
  | .hbm, ⟨10, _⟩ => ⟨S1, .i32⟩
  | .hbm, ⟨11, _⟩ => ⟨S_, .i32⟩
  | .hbm, ⟨12, _⟩ => ⟨S16384x20x1, .i32⟩
  | .hbm, ⟨13, _⟩ => ⟨S16384x20x1, .i1⟩
  | .hbm, ⟨14, _⟩ => ⟨S1x1x1, .i32⟩
  | .hbm, ⟨15, _⟩ => ⟨S16384x20x1, .i32⟩
  | .hbm, ⟨16, _⟩ => ⟨S16384x20x1, .i1⟩
  | .hbm, ⟨17, _⟩ => ⟨S16384x20x1, .i1⟩
  | .hbm, ⟨18, _⟩ => ⟨S_, .i1⟩
  | .hbm, ⟨19, _⟩ => ⟨S16384x20, .i1⟩
  | .hbm, ⟨20, _⟩ => ⟨S16384x20x128, .f32⟩
  | .hbm, ⟨21, _⟩ => ⟨S16384x20x128, .i1⟩
  | .hbm, ⟨22, _⟩ => ⟨S_, .f32⟩
  | .hbm, ⟨23, _⟩ => ⟨S16384x20x128, .f32⟩
  | .hbm, ⟨24, _⟩ => ⟨S16384x20x128, .f32⟩
  | _, _ => ⟨S16384x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.GatherBatch.lean ====
/-
  Several indirect gathers in flight on ONE DMA semaphore.

  A gather of `m` rows is `m` row transfers of equal credit. A batch (`Transfers.Batch`) counts equal transfers on one
  cell, so the rows of several gathers make one batch: each gather issues the batch's next `m` transfers. The waits
  take whole gathers' credits and hand nothing back; once every unit is consumed the batch gives every row's delivery.
-/
module

public import Idealize.ShloMosaic.Lib.Batch
public import Idealize.ShloMosaic.Lib.SparseCore.Stream

@[expose] public section

namespace Emb

open Idealize.ShloMosaic Idealize.ShloMosaic.SparseCore
open Idealize.ShloMosaic.Transfers (Batch batchBody pending)
open Idealize.ShloMosaic.Rounds
open Idealize.SL Idealize.SL.RA Idealize.SL.BI
open scoped Idealize.SL.BI
open Idealize.SL.BI.BIBase Idealize.SL.BI.Laws Idealize.SL.ProofMode Idealize.SL.Sem

/-! ## The transfers pending from `k`, `m` at a time -/

section Pending

variable {M : Type} [URA M] {n : ℕ}

/-- What is pending from `k` is the next `m` and what is pending from `k + m`. -/
theorem bigSep_pending_add (Φ : Fin n → sProp M) (k m : ℕ) (h : k + m ≤ n) :
    bigSep (pending k) Φ
      = iprop(bigSep Finset.univ (fun r : Fin m => Φ ⟨k + r.val, by omega⟩) ∗ bigSep (pending (k + m)) Φ) := by
  classical
  let e : Fin m ↪ Fin n := ⟨fun r => ⟨k + r.val, by omega⟩, fun a b hab => by
    have := congrArg Fin.val hab; simp only at this; exact Fin.ext (by omega)⟩
  have hset : (pending k : Finset (Fin n)) = (Finset.univ.map e) ∪ pending (k + m) := by
    ext t
    simp only [pending, Finset.mem_union, Finset.mem_map, Finset.mem_univ, true_and, Finset.mem_filter]
    constructor
    · intro ht
      by_cases h' : k + m ≤ t.val
      · exact Or.inr h'
      · exact Or.inl ⟨⟨t.val - k, by omega⟩, Fin.ext (by change k + (t.val - k) = t.val; omega)⟩
    · rintro (⟨r, rfl⟩ | h')
      · exact Nat.le_add_right _ _
      · omega
  have hdis : Disjoint (Finset.univ.map e) (pending (k + m) : Finset (Fin n)) := by
    refine Finset.disjoint_left.mpr fun t ht ht' => ?_
    simp only [pending, Finset.mem_map, Finset.mem_univ, true_and, Finset.mem_filter] at ht ht'
    obtain ⟨r, rfl⟩ := ht
    have : k + m ≤ k + r.val := ht'
    omega
  rw [hset, bigSep_union hdis, bigSep_map]
  rfl

end Pending

/-! ## One row's delivery -/

section Rule

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- What row `j` of a gather delivers, the destination's contents to be `G`: the destination's row at `G`, the offset
    list's entry back, and the row's piece of the source's share back. -/
noncomputable def rowOut (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fo : Buf (Elt F) (offs.view.loc c))
    (G : Buf (Elt F) (dst.view.loc c)) (j : Fin (s.size hg.axis')) : sProp 𝕄 :=
  iprop(((dst.view.loc c ↦[(dst.view.slice (s.rowRect hg.axis' j)).set]{fullShare} G)
      ∗ (offs.view.loc c ↦[{offs.view.emb (si.rowMajor.symm (j.cast hn.symm))}]{qo} fo))
    ∗ (src.view.loc c ↦[src.view.set]{pieceOf q _ ho j} fs))

instance rowOut_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fo : Buf (Elt F) (offs.view.loc c))
    (G : Buf (Elt F) (dst.view.loc c)) (j : Fin (s.size hg.axis')) :
    Storable (upEmb : UEmb _ 𝕄) (rowOut c src dst hg offs hn ho q qo fs fo G j) := by
  unfold rowOut; infer_instance

/-- The rows' deliveries together: the destination at `G`, the source's share and the list's share back. -/
theorem rowOut_join (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fo : Buf (Elt F) (offs.view.loc c))
    (G : Buf (Elt F) (dst.view.loc c)) :
    bigSep Finset.univ (rowOut c src dst hg offs hn ho q qo fs fo G)
      ⊢ (iprop((dst.view.loc c ↦[dst.view.set]{fullShare} G) ∗ (src.view.loc c ↦[src.view.set]{q} fs)
          ∗ (offs.view.loc c ↦[offs.view.set]{qo} fo)) : sProp 𝕄) := by
  have hen : Function.Bijective fun j : Fin (s.size hg.axis') => si.rowMajor.symm (j.cast hn.symm) :=
    si.rowMajor.symm.bijective.comp (finCongr hn.symm).bijective
  unfold rowOut
  iintro H
  ihave H1 := Transfers.bigSep_sep_out _ _ _ $$ H
  icases H1 with ⟨H2, Hs⟩
  ihave H3 := Transfers.bigSep_sep_out _ _ _ $$ H2
  icases H3 with ⟨Hd, Ho⟩
  isplitl [Hd]; · iapply (Entails.of_eq (pointsTo_rows c dst.view hg.axis' fullShare G).symm) $$ Hd
  isplitl [Hs]; · iapply (Entails.of_eq (pointsTo_piecesOf src.view.set fs ho q).symm) $$ Hs
  iapply (Entails.of_eq (pointsTo_entries c offs.view _ hen qo fo).symm) $$ Ho

/-! ## One row's transfer -/

section Row

variable {src : Memref sig c.2.kind sp s₀ e} {dst : Memref sig c.2.kind .vmem s e} {hg : s₀.Gathers a s}
  {offs : Memref sig c.2.kind .vmem si .i32} {hn : si.numel = s.size hg.axis'}

/-- The gather as a stream of row transfers. -/
abbrev gStream (src : Memref sig c.2.kind sp s₀ e) (dst : Memref sig c.2.kind .vmem s e) (hg : s₀.Gathers a s)
    (offs : Memref sig c.2.kind .vmem si .i32) (hn : si.numel = s.size hg.axis') (sem : DmaSem sig)
    (hsrc : src.view.WordExact) (he : e.bits = 32) (hsp : sp = .hbm ∨ sp = .shared) (hr : s₀.StreamRows a) : Stream nD τ sig (Elt F) :=
  Stream.issued c offs.view hn sem (fun j w => (rowOf (s₀.size hg.axis) w).map (gatherRow c src dst hg sem hsrc he hsp hr j)) 0

variable {sem : DmaSem sig} {hsrc : src.view.WordExact} {he : e.bits = 32} {hsp : sp = .hbm ∨ sp = .shared} {hr : s₀.StreamRows a}

/-- Whatever rows two words name, the transfers they start credit alike. -/
theorem gStream_agree : (gStream (F := F) c src dst hg offs hn sem hsrc he hsp hr).RowsAgree := fun j x x' ρ ρ' h h' => by
  change Option.map _ _ = _ at h
  change Option.map _ _ = _ at h'
  rw [Option.map_eq_some_iff] at h h'
  rcases h with ⟨k, -, hk⟩
  rcases h' with ⟨k', -, hk'⟩
  rw [← hk, ← hk']

/-- A word in range starts the transfer of the row it names. -/
theorem gStream_row (fo : Buf (Elt F) (offs.view.loc c)) (hin : ∀ x, (offs.view.read (Elt F) fo x).toNat < s₀.size hg.axis)
    (j : Fin (s.size hg.axis')) :
    (gStream (F := F) c src dst hg offs hn sem hsrc he hsp hr).row j ((gStream (F := F) c src dst hg offs hn sem hsrc he hsp hr).word fo j)
      = some (gatherRow c src dst hg sem hsrc he hsp hr j (rows (offs.view.read (Elt F) fo) hn hin j)) :=
  congrArg (Option.map (gatherRow c src dst hg sem hsrc he hsp hr j)) (rowOf_of_lt (hin _))

/-- A row written with its own payload holds what `G` holds there, where `G` reads as the gather's payload. -/
theorem row_written (fs : Buf (Elt F) (src.view.loc c)) (fd G : Buf (Elt F) (dst.view.loc c)) (r : Fin (s.size hg.axis') → Fin (s₀.size hg.axis))
    (hG : dst.view.read (Elt F) G = gatherPayload hg (src.view.read (Elt F) fs) r) (j : Fin (s.size hg.axis')) :
    (dst.view.loc c ↦[(dst.view.slice (s.rowRect hg.axis' j)).set]{fullShare}
        ((dst.view.slice (s.rowRect hg.axis' j)).write (Elt F) fd (fun i => src.view.read (Elt F) fs (hg.rowIdx (r j) i)) Finset.univ) : sProp 𝕄)
      = (dst.view.loc c ↦[(dst.view.slice (s.rowRect hg.axis' j)).set]{fullShare} G) := by
  refine pointsTo_congr fun i hi => ?_
  obtain ⟨x, -, hx⟩ := Finset.mem_map.mp hi
  have hread : ∀ y : (s.rowShape hg.axis').Idx,
      src.view.read (Elt F) fs (hg.rowIdx (r j) y) = dst.view.read (Elt F) G ((s.rowRect hg.axis' j).emb y) := fun y => by
    rw [hG, gatherPayload, Shape.Gathers.idx_rowRect_emb]
  rw [← hx, View.write_emb_of_mem (v := dst.view.slice (s.rowRect hg.axis' j)) fd _ (Finset.mem_univ x), hread x, View.read_apply, cast_cast]
  exact cast_eq _ _

/-- Row `j` as transfer `t` of a batch: what it takes is the destination's row, the offset list's entry, a piece of the
    source's share and the batch's pending count of `t`; what it will deliver is `D t`. -/
theorem row_issue [EC.LandsIn (upEmb : UEmb _ 𝕄)] {q qo : PosShare TreeShare} {fs : Buf (Elt F) (src.view.loc c)}
    {fd : Buf (Elt F) (dst.view.loc c)} {fo : Buf (Elt F) (offs.view.loc c)} {G : Buf (Elt F) (dst.view.loc c)}
    {r : Fin (s.size hg.axis') → Fin (s₀.size hg.axis)} (ho : 0 < s.size hg.axis')
    (hG : dst.view.read (Elt F) G = gatherPayload hg (src.view.read (Elt F) fs) r)
    {n N : ℕ} {D : Fin n → sProp 𝕄} {γ : Fin n → ℕ} {γ₀ : ℕ} {κ : Name} (j : Fin (s.size hg.axis')) (t : Fin n)
    (hN : (dst.slice (s.rowRect hg.axis' j) (s.stride_rowRect hg.axis' j)).view.dmaCredit = N)
    (hD : rowOut c src dst hg offs hn ho q qo fs fo G j ⊢ D t) :
    iprop(inv κ (batchBody EC (c, SemLoc.dma sem) N D γ γ₀)
        ∗ (((dst.view.loc c ↦[(dst.view.slice (s.rowRect hg.axis' j)).set]{fullShare} fd)
            ∗ (gStream (F := F) c src dst hg offs hn sem hsrc he hsp hr).heldEntry qo fo j)
          ∗ (src.view.loc c ↦[src.view.set]{pieceOf q _ ho j} fs)) ∗ count EC (γ t) 0)
      ⊢ iprop((gStream (F := F) c src dst hg offs hn sem hsrc he hsp hr).heldEntry qo fo j
          ∗ ((gStream (F := F) c src dst hg offs hn sem hsrc he hsp hr).heldEntry qo fo j
              -∗ rowRes c (gatherRow c src dst hg sem hsrc he hsp hr j (r j)))) := by
  iintro ⟨#Hbatch, ⟨⟨Hdst, Hent⟩, Hsrc⟩, Hpend⟩
  isplitl [Hent]; · iexact Hent
  iintro Hent
  unfold rowRes
  iexists pieceOf q _ ho j, fs, iprop((dst.view.loc c ↦[(dst.view.slice (s.rowRect hg.axis' j)).set]{fullShare}
    ((dst.view.slice (s.rowRect hg.axis' j)).write (Elt F) fd (fun i => src.view.read (Elt F) fs (hg.rowIdx (r j) i)) Finset.univ))
      ∗ (gStream (F := F) c src dst hg offs hn sem hsrc he hsp hr).heldEntry qo fo j)
  isplitl [Hsrc]; · iexact Hsrc
  isplitr [Hpend]
  · iapply writeUpdate_frame
    isplitr [Hent]
    · iapply (pointsTo_writeUpdate c (v := dst.view.slice (s.rowRect hg.axis' j)) subset_rfl) $$ Hdst
    iexact Hent
  rw [show (gatherRow (F := F) (nD := nD) c src dst hg sem hsrc he hsp hr j (r j)).dst.view.amount (.dma sem) = N from hN]
  iapply (Transfers.batch_creditUpdate EC (D := D) (γ := γ) (γ₀ := γ₀) t (by rw [row_written c fs fd G r hG j]; exact hD))
  isplitr; · iexact Hbatch
  iexact Hpend

end Row

/-! ## The issue -/

/-- `enqueueIndirectGather` as the NEXT `m` TRANSFERS of a batch of row transfers of `N` units each, `m` the gather's
    number of rows: holding a share of the source, the destination outright, a share of the offset list (every word of
    it in range, `hin`) and the `Batch` with `j₀` transfers issued, the tile issues the gather and continues with the
    `Batch` with `j₀ + m` issued. The contents `G` the deliveries name read, through the destination, as the gather's
    payload (`hG`). -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (G : Buf (Elt F) (dst.view.loc c))
    (ι : Ix) (N : ℕ) (hN : ∀ j, (dst.slice (s.rowRect hg.axis' j) (s.stride_rowRect hg.axis' j)).view.dmaCredit = N)
    (hs : 0 < s.numel) (hin : ∀ x, (offs.view.read (Elt F) fo x).toNat < s₀.size hg.axis)
    (hG : dst.view.read (Elt F) G = gatherPayload hg (src.view.read (Elt F) fs) (rows (offs.view.read (Elt F) fo) hn hin))
    {n : ℕ} {D : Fin n → sProp 𝕄} {j₀ u : ℕ} (hj : j₀ + s.size hg.axis' ≤ n) (hu : u ≤ j₀ * N)
    (hD : ∀ r : Fin (s.size hg.axis'),
      rowOut c src dst hg offs hn (Shape.size_pos_of_numel_pos hs _) q qo fs fo G r ⊢ D ⟨j₀ + r.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D j₀ u)
      ⊢ iprop((Batch EC c (.dma sem) ι N D (j₀ + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  have ho : 0 < s.size hg.axis' := Shape.size_pos_of_numel_pos hs _
  have hbij : Function.Bijective (gStream (F := F) c src dst hg offs hn sem hsrc he hsp hr).entry :=
    ((finCongr hn.symm).trans si.rowMajor.symm).bijective
  have hsum : ∑ j, (gatherRow (F := F) (nD := nD) c src dst hg sem hsrc he hsp hr j (rows (offs.view.read (Elt F) fo) hn hin j)).dst.view.dmaCredit
      = s.size hg.axis' * N := sum_rowCredit_eq _ hN rfl
  unfold Batch
  iintro ⟨Hsrc, Hdst, Hoffs, ⟨%γ, %γ₀, %κ, #Hbatch, Hpend, H0, Hcred⟩⟩ Hk
  ihave Hpend' := (Entails.of_eq (bigSep_pending_add (fun t => count EC (γ t) 0) j₀ (s.size hg.axis') hj)) $$ Hpend
  icases Hpend' with ⟨Hnext, Hlater⟩
  iapply (wp_enqueueIndirectDma 𝒱 c bd Set.univ (qo := qo) (fo := fo)
    (rd := fun j => gatherRow c src dst hg sem hsrc he hsp hr j (rows (offs.view.read (Elt F) fo) hn hin j)) ι (s.size hg.axis' * N)
    (gStream_agree c) (gStream_row c fo hin) hsum) $$ [Hsrc Hdst Hoffs Hnext]
  · unfold Stream.res
    iapply (Transfers.bigSep_mono_pers Finset.univ _ _ _ fun j _ => row_issue EC c ho hG j ⟨j₀ + j.val, by omega⟩ (hN j) (hD j))
    isplitr; · iexact Hbatch
    rw [bigSep_sep', bigSep_sep', bigSep_sep', ← pointsTo_rows c dst.view hg.axis' fullShare fd, ← pointsTo_piecesOf src.view.set fs ho q]
    isplitr [Hnext]
    · isplitr [Hsrc]
      · isplitl [Hdst]; · iexact Hdst
        iapply (Entails.of_eq (pointsTo_entries c offs.view _ hbij qo fo)) $$ Hoffs
      iexact Hsrc
    iexact Hnext
  iintro Hnew
  iapply Hk
  iexists γ, γ₀, κ
  isplitr; · iexact Hbatch
  isplitl [Hlater]; · iexact Hlater
  isplitl [H0]; · iexact H0
  have hunits : (j₀ + s.size hg.axis') * N - u = (j₀ * N - u) + s.size hg.axis' * N := by rw [Nat.add_mul]; omega
  rw [hunits, ← tallyAt_add]
  icombine Hcred Hnew as H
  iexact H

/-- The same, the gather standing alone. -/
theorem wp_gatherBatch_lift [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {Q : PUnit → sProp (MT nD τ sig Ix (Elt F) Name U Lvl)}
    {q qo : PosShare TreeShare} {fs : Buf (Elt F) (src.view.loc c)} {fd : Buf (Elt F) (dst.view.loc c)} {fo : Buf (Elt F) (offs.view.loc c)}
    (G : Buf (Elt F) (dst.view.loc c))
    (ι : Ix) (N : ℕ) (hN : ∀ j, (dst.slice (s.rowRect hg.axis' j) (s.stride_rowRect hg.axis' j)).view.dmaCredit = N)
    (hs : 0 < s.numel) (hin : ∀ x, (offs.view.read (Elt F) fo x).toNat < s₀.size hg.axis)
    (hG : dst.view.read (Elt F) G = gatherPayload hg (src.view.read (Elt F) fs) (rows (offs.view.read (Elt F) fo) hn hin))
    {n : ℕ} {D : Fin n → sProp 𝕄} {j₀ u : ℕ} (hj : j₀ + s.size hg.axis' ≤ n) (hu : u ≤ j₀ * N)
    (hD : ∀ r : Fin (s.size hg.axis'),
      rowOut c src dst hg offs hn (Shape.size_pos_of_numel_pos hs _) q qo fs fo G r ⊢ D ⟨j₀ + r.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D j₀ u)
      ⊢ iprop((Batch EC c (.dma sem) ι N D (j₀ + s.size hg.axis') u -∗ Q ⟨⟩)
          -∗ wp frame (wpE defs 𝒱 c bd) Set.univ (enqueueIndirectGather hp src dst hg offs hn sem hsrc he hsp hr) Q) := by
  have e : (enqueueIndirectGather hp src dst hg offs hn sem hsrc he hsp hr >>= fun x => .ret x)
      = (enqueueIndirectGather hp src dst hg offs hn sem hsrc he hsp hr : Prog (TpuEff nD τ sig (Elt F) Λ c.2) PUnit) := Prog.bind_pure _
  rw [← e]
  exact (wp_gatherBatch EC 𝒱 c bd G ι N hN hs hin hG hj hu hD).trans (wand_mono (wand_mono .rfl (le_wp_ret _ _ _ _ _)) .rfl)

end Rule

end Emb

end
-- ==== Proof.Layout.lean ====
/-
  The kernel's buffers, the windows of them its transfers name, and the values that lie in them.

  Worker `(c, j)` of the grid (SparseCore `c`, tile `j`) has the 512 columns from `base = 1024 j + 512 c`. Its work is 160
  chunks of 64 columns, chunk `n` being row `n / 8` of the index block and the columns from `64 (n % 8)` of it, in 32
  steps of five chunks.
-/
module

public import proofs.«01_k».proof.Proof.GatherBatch
public import proofs.«01_k».proof.Proof.Gen.KernelIdeal.Skeleton
public import Idealize.ShloMosaic.Lib.SparseCore.Quiescent
public import Idealize.ShloMosaic.Lib.SparseCore.Ops
public import Idealize.ShloMosaic.Lib.ValueLayout
public import Idealize.ShloMosaic.Lib.Pipeline.Kit
public import Idealize.ShloMosaic.Lib.StableHlo.Run
public import Idealize.ShloMosaic.Lib.Tactic

@[expose] public section

noncomputable section

namespace Emb

open Cert.KernelIdeal Cert.KernelIdeal.Gen
open Idealize.ShloMosaic
open Idealize.ShloMosaic.SparseCore (S V T)
open Idealize.ShloMosaic.ValueIdx

/-! ## Buffers and workers -/

abbrev TV : Memref sig .scVector .hbm S20x16384 .i32 := Memref.whole main_v0_scv
abbrev PV : Memref sig .scVector .hbm S367x128 .f32 := Memref.whole main_arg1_scv
abbrev OV : Memref sig .scVector .hbm S20x16384x128 .f32 := Memref.whole main_v1_scv
abbrev IV : Memref sig .scVector .vmem S20x512 .i32 := Memref.whole cc0_scratch0
abbrev RV : Memref sig .scVector .vmem S2x5x64x128 .f32 := Memref.whole cc0_scratch1
abbrev SV : Memref sig .scVector .shared S367x128 .f32 := Memref.whole cc0_scratch2

abbrev cV (L : grid0.Coords) : Fin τ.nSC := (L 0).castLE hcore0
abbrev jV (L : grid0.Coords) : Fin τ.nSub := (L 1).castLE hsub0
/-- The worker's thread on device `d`. -/
abbrev wk (d : Dev nD) (L : grid0.Coords) : Thread nD τ := V d (cV L) (jV L)

/-- The worker's first column. -/
def base (L : grid0.Coords) : ℕ := 1024 * (L 1).val + 512 * (L 0).val

theorem base_lt (L : grid0.Coords) : base L + 512 ≤ 16384 := by
  have h0 : (L 0).val < 2 := (L 0).isLt
  have h1 : (L 1).val < 16 := (L 1).isLt
  unfold base; omega

/-! ## Windows -/

abbrev rowW (off : Fin 4 → ℕ) (h : ∀ a, off a + S1x1x64x128.size a ≤ S2x5x64x128.size a) : Memref sig .scVector .vmem S64x128 .f32 :=
  (RV.slice (Rect.unit (s := S2x5x64x128) off S1x1x64x128.size h) (fun _ => rfl)).squeeze S64x128 squeezes_S1x1x64x128_S64x128
abbrev outW (off : Fin 3 → ℕ) (h : ∀ a, off a + S1x64x128.size a ≤ S20x16384x128.size a) : Memref sig .scVector .hbm S64x128 .f32 :=
  (OV.slice (Rect.unit (s := S20x16384x128) off S1x64x128.size h) (fun _ => rfl)).squeeze S64x128 squeezes_S1x64x128_S64x128
abbrev idxW (off : Fin 2 → ℕ) (h : ∀ a, off a + S1x64.size a ≤ S20x512.size a) : Memref sig .scVector .vmem S64 .i32 :=
  (IV.slice (Rect.unit (s := S20x512) off S1x64.size h) (fun _ => rfl)).squeeze S64 squeezes_S1x64_S64
abbrev timeW (off : Fin 2 → ℕ) (h : ∀ a, off a + S20x512.size a ≤ S20x16384.size a) : Memref sig .scVector .hbm S20x512 .i32 :=
  TV.slice (Rect.unit (s := S20x16384) off S20x512.size h) (fun _ => rfl)
abbrev tabW : Memref sig .scVector .shared S367x128 .f32 :=
  SV.slice (Rect.unit (s := S367x128) ![0, 0] S367x128.size inb_S367x128_S367x128_0_0) (fun _ => rfl)

/-! ### Where a window's elements lie -/

theorem unit_emb_val {s : Shape} (off size : Fin s.rank → ℕ) (h : ∀ a, off a + size a ≤ s.size a) (y : (Rect.unit off size h).shape.Idx)
    (a : Fin s.rank) : (((Rect.unit off size h).emb y) a).val = off a + (y a).val := by
  rw [Rect.emb_apply, Rect.stride_unit, Rect.off_unit, Nat.one_mul]

theorem rowW_emb (off : Fin 4 → ℕ) (h) (x : S64x128.Idx) :
    (((rowW off h).view.emb x) 0).val = off 0 ∧ (((rowW off h).view.emb x) 1).val = off 1
      ∧ (((rowW off h).view.emb x) 2).val = off 2 + (x 0).val ∧ (((rowW off h).view.emb x) 3).val = off 3 + (x 1).val := by
  have hx : Shape.reshapeEquiv squeezes_S1x1x64x128_S64x128.numel_eq x
      = ix4 (⟨0, Nat.one_pos⟩ : Fin 1) (⟨0, Nat.one_pos⟩ : Fin 1) (x 0) (x 1) := by
    rw [eq_ix2 x]; exact reshapeEquiv_ix2_11ab _ _ _
  have e := unit_emb_val (s := S2x5x64x128) off S1x1x64x128.size h (Shape.reshapeEquiv squeezes_S1x1x64x128_S64x128.numel_eq x)
  exact ⟨(e 0).trans (congrArg (fun y : S1x1x64x128.Idx => off 0 + (y 0).val) hx), (e 1).trans (congrArg (fun y : S1x1x64x128.Idx => off 1 + (y 1).val) hx),
    (e 2).trans (congrArg (fun y : S1x1x64x128.Idx => off 2 + (y 2).val) hx), (e 3).trans (congrArg (fun y : S1x1x64x128.Idx => off 3 + (y 3).val) hx)⟩

theorem outW_emb (off : Fin 3 → ℕ) (h) (x : S64x128.Idx) :
    (((outW off h).view.emb x) 0).val = off 0 ∧ (((outW off h).view.emb x) 1).val = off 1 + (x 0).val
      ∧ (((outW off h).view.emb x) 2).val = off 2 + (x 1).val := by
  have hx : Shape.reshapeEquiv squeezes_S1x64x128_S64x128.numel_eq x = ix3 (⟨0, Nat.one_pos⟩ : Fin 1) (x 0) (x 1) := by
    rw [eq_ix2 x]; exact reshapeEquiv_ix2_1ab _ _ _
  have e := unit_emb_val (s := S20x16384x128) off S1x64x128.size h (Shape.reshapeEquiv squeezes_S1x64x128_S64x128.numel_eq x)
  exact ⟨(e 0).trans (congrArg (fun y : S1x64x128.Idx => off 0 + (y 0).val) hx), (e 1).trans (congrArg (fun y : S1x64x128.Idx => off 1 + (y 1).val) hx),
    (e 2).trans (congrArg (fun y : S1x64x128.Idx => off 2 + (y 2).val) hx)⟩

theorem idxW_emb (off : Fin 2 → ℕ) (h) (x : S64.Idx) :
    (((idxW off h).view.emb x) 0).val = off 0 ∧ (((idxW off h).view.emb x) 1).val = off 1 + (x 0).val := by
  have hx : Shape.reshapeEquiv squeezes_S1x64_S64.numel_eq x = (ix2 (⟨0, Nat.one_pos⟩ : Fin 1) (x 0 : Fin 64) : (⟨2, ![1, 64]⟩ : Shape).Idx) :=
    Shape.reshapeEquiv_eq_of_rowMajor squeezes_S1x64_S64.numel_eq (by
      refine (Shape.rowMajor_val_two (d := ![1, 64]) _).trans ?_
      refine Eq.trans ?_ (Shape.rowMajor_val_one (d := ![64]) x).symm
      show 0 * 64 + (x 0).val = (x 0).val
      omega)
  have e := unit_emb_val (s := S20x512) off S1x64.size h (Shape.reshapeEquiv squeezes_S1x64_S64.numel_eq x)
  exact ⟨(e 0).trans (congrArg (fun y : S1x64.Idx => off 0 + (y 0).val) hx), (e 1).trans (congrArg (fun y : S1x64.Idx => off 1 + (y 1).val) hx)⟩

theorem timeW_emb (off : Fin 2 → ℕ) (h) (x : S20x512.Idx) :
    (((timeW off h).view.emb x) 0).val = off 0 + (x 0).val ∧ (((timeW off h).view.emb x) 1).val = off 1 + (x 1).val :=
  ⟨unit_emb_val (s := S20x16384) off S20x512.size h x 0, unit_emb_val (s := S20x16384) off S20x512.size h x 1⟩

theorem tabW_emb (x : S367x128.Idx) : tabW.view.emb x = x := by
  have e : tabW.view.emb x = (Rect.unit (s := S367x128) ![0, 0] S367x128.size inb_S367x128_S367x128_0_0).emb x := rfl
  rw [e]; funext a; apply Fin.ext; rw [Rect.emb_apply]
  match a with
  | 0 => simp [Rect.unit]
  | 1 => simp [Rect.unit]

theorem tabW_set : tabW.view.set = Finset.univ := by
  ext x
  simp only [Finset.mem_univ, iff_true]
  exact Finset.mem_map.mpr ⟨x, Finset.mem_univ _, tabW_emb x⟩

/-! ### A window's elements -/

theorem mem_rowW (off : Fin 4 → ℕ) (h) (i : S2x5x64x128.Idx) :
    i ∈ (rowW off h).view.set ↔ ∀ a, off a ≤ (i a).val ∧ (i a).val < off a + S1x1x64x128.size a := by
  rw [show (rowW off h).view.set = (Rect.unit (s := S2x5x64x128) off S1x1x64x128.size h).set from
    (View.set_reshape _ _).trans ((View.set_slice _ _).trans Finset.map_refl)]
  exact Rect.mem_set_unit

theorem mem_outW (off : Fin 3 → ℕ) (h) (i : S20x16384x128.Idx) :
    i ∈ (outW off h).view.set ↔ ∀ a, off a ≤ (i a).val ∧ (i a).val < off a + S1x64x128.size a := by
  rw [show (outW off h).view.set = (Rect.unit (s := S20x16384x128) off S1x64x128.size h).set from
    (View.set_reshape _ _).trans ((View.set_slice _ _).trans Finset.map_refl)]
  exact Rect.mem_set_unit

/-! ## Chunks -/

/-- The chunk number of chunk `b` of step `s`. -/
def chk (s : Fin 32) (b : Fin 5) : ℕ := 5 * s.val + b.val

theorem chk_lt (s : Fin 32) (b : Fin 5) : chk s b < 160 := by unfold chk; omega

def rowOff (h : ℕ) (b : Fin 5) : Fin 4 → ℕ := ![h % 2, b.val, 0, 0]
def idxOff (s : Fin 32) (b : Fin 5) : Fin 2 → ℕ := ![chk s b / 8, 64 * (chk s b % 8)]
def outOff (L : grid0.Coords) (s : Fin 32) (b : Fin 5) : Fin 3 → ℕ := ![chk s b / 8, base L + 64 * (chk s b % 8), 0]

theorem rowOff_inb (h : ℕ) (b : Fin 5) (a) : rowOff h b a + S1x1x64x128.size a ≤ S2x5x64x128.size a := by
  unfold rowOff
  have := b.isLt; have := Nat.mod_lt h (show 0 < 2 by decide)
  match a with
  | 0 => show h % 2 + 1 ≤ 2; omega
  | 1 => show b.val + 1 ≤ 5; omega
  | 2 => show 0 + 64 ≤ 64; omega
  | 3 => show 0 + 128 ≤ 128; omega

theorem idxOff_inb (s : Fin 32) (b : Fin 5) (a) : idxOff s b a + S1x64.size a ≤ S20x512.size a := by
  unfold idxOff
  have := chk_lt s b
  match a with
  | 0 => show chk s b / 8 + 1 ≤ 20; omega
  | 1 => show 64 * (chk s b % 8) + 64 ≤ 512; omega

theorem outOff_inb (L : grid0.Coords) (s : Fin 32) (b : Fin 5) (a) : outOff L s b a + S1x64x128.size a ≤ S20x16384x128.size a := by
  unfold outOff
  have := chk_lt s b; have := base_lt L
  match a with
  | 0 => show chk s b / 8 + 1 ≤ 20; omega
  | 1 => show base L + 64 * (chk s b % 8) + 64 ≤ 16384; omega
  | 2 => show 0 + 128 ≤ 128; omega

/-- Slot `b` of half `h` of the row scratch. -/
abbrev rowS (h : ℕ) (b : Fin 5) : Memref sig .scVector .vmem S64x128 .f32 := rowW (rowOff h b) (rowOff_inb h b)
/-- The index words of chunk `b` of step `s`. -/
abbrev idxS (s : Fin 32) (b : Fin 5) : Memref sig .scVector .vmem S64 .i32 := idxW (idxOff s b) (idxOff_inb s b)
/-- The output rows of chunk `b` of step `s`. -/
abbrev outS (L : grid0.Coords) (s : Fin 32) (b : Fin 5) : Memref sig .scVector .hbm S64x128 .f32 := outW (outOff L s b) (outOff_inb L s b)

/-! ### The program's own spellings of the offsets -/

theorem trips_eq : k0_t1_loop.trips = 32 := by decide +kernel

abbrev st (t : Fin k0_t1_loop.trips) : Fin 32 := Fin.cast trips_eq t

theorem k0_off2_chk : ∀ b : Fin 5, k0_off2 (k0_off2_at b).1 (k0_off2_at b).2 = idxOff 0 b := by decide +kernel
theorem k0_off16_chk : ∀ (t : Fin k0_t1_loop.trips) (h : t.val + 1 < 32) (b : Fin 5),
    k0_off16 t (BitVec.ofNat 32 b.val) = idxOff ⟨t.val + 1, h⟩ b := by decide +kernel
theorem k0_off21_chk : ∀ (L : grid0.Coords) (t : Fin k0_t1_loop.trips) (b : Fin 5),
    k0_off21 L t (BitVec.ofNat 32 b.val) = outOff L (st t) b := by decide +kernel
theorem k0_cond2_iff : ∀ t : Fin k0_t1_loop.trips, k0_cond2 t = 1#1 ↔ 1 ≤ t.val := by decide +kernel
theorem k0_cond3_iff : ∀ t : Fin k0_t1_loop.trips, k0_cond3 t = 1#1 ↔ t.val + 1 < 32 := by decide +kernel

end Emb

end
-- ==== Proof.Setup.lean ====
/-
  The program as the launch theorem sees it, the resource algebra, and the values that lie in the buffers.

  `OUT` is the kernel's output: row `x₁` of block `x₀` is the table's row that the index word `(x₀, x₁)` names. `IX` is a
  worker's block of index words, `GS s` the contents of its row scratch once step `s` has gathered.
-/
module

public import proofs.«01_k».proof.Proof.Layout

@[expose] public section

noncomputable section

namespace Emb

open Cert.KernelIdeal Cert.KernelIdeal.Gen
open Idealize.ShloMosaic
open Idealize.ShloMosaic.SparseCore (S V T)
open Idealize.ShloMosaic.SparseCore.Cfg (HIx)
open Idealize.ShloMosaic.ValueIdx
open Idealize.ShloMosaic.Rounds
open Idealize.SL.Sem
open Idealize.SL Idealize.SL.RA Idealize.SL.BI

variable {F : FTy → Type}

/-! ## The program -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds, the barrier cells' rounds, the batches' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
abbrev EC : UEmb Counters (MT nD τ sig (HIx 1) (Elt F) ℕ UU ℕ) := countersEmb

/-- The semaphore the gathers signal. -/
abbrev gsem : DmaSem sig := SemArray.sem cc0_scratch3
/-- The semaphore the stores signal. -/
abbrev ssem : DmaSem sig := SemArray.sem cc0_scratch4

/-! ## Values -/

/-- The table's entry `k` of the row that a word names. -/
def ent (Pe : S367x128.Idx → Elt F .f32) (w : BitVec 32) (k : Fin 128) : Elt F .f32 :=
  Pe (ix2 (⟨w.toNat % 367, Nat.mod_lt _ (by decide)⟩ : Fin 367) k)

/-- The output. -/
def OUT (Tm : S20x16384.Idx → Elt F .i32) (Pe : S367x128.Idx → Elt F .f32) : S20x16384x128.Idx → Elt F .f32 :=
  fun x => ent Pe (Tm (ix2 (x 0 : Fin 20) (x 1 : Fin 16384))) (x 2)

/-- A worker's index words. -/
def IX (Tm : S20x16384.Idx → Elt F .i32) (L : grid0.Coords) : S20x512.Idx → Elt F .i32 :=
  fun y => Tm (ix2 (y 0 : Fin 20) (⟨base L + (y 1).val, by have := base_lt L; have : (y 1).val < 512 := (y 1).isLt; omega⟩ : Fin 16384))

/-- The row scratch's contents once step `s` has gathered. -/
def GS (Tm : S20x16384.Idx → Elt F .i32) (Pe : S367x128.Idx → Elt F .f32) (L : grid0.Coords) (s : Fin 32) : S2x5x64x128.Idx → Elt F .f32 :=
  fun x => ent Pe (Tm (ix2 (⟨chk s (x 1) / 8, by have := chk_lt s (x 1); omega⟩ : Fin 20)
    (⟨base L + (64 * (chk s (x 1) % 8) + (x 2).val), by have := base_lt L; have : (x 2).val < 64 := (x 2).isLt; omega⟩ : Fin 16384))) (x 3)

/-! ### Index words in range -/

theorem IX_lt {Tm : S20x16384.Idx → Elt F .i32} (hT : ∀ i, BitVec.toNat (Tm i) < 367) (L : grid0.Coords) (y) : BitVec.toNat (IX Tm L y) < 367 := hT _

/-- A step's gathers write what `GS` says. -/
theorem gather_value {Tm : S20x16384.Idx → Elt F .i32} (hT : ∀ i, BitVec.toNat (Tm i) < 367) (Pe : S367x128.Idx → Elt F .f32) (L : grid0.Coords)
    (s : Fin 32) (b : Fin 5) (hin : ∀ x, BitVec.toNat ((idxS s b).view.read (Elt F) (IX Tm L) x) < 367) :
    (rowS s.val b).view.read (Elt F) (GS Tm Pe L s)
      = SparseCore.gatherPayload gathers_S367x128_S64x128 (tabW.view.read (Elt F) Pe)
          (SparseCore.rows ((idxS s b).view.read (Elt F) (IX Tm L)) rfl hin) := by
  funext x
  obtain ⟨-, h1, h2, h3⟩ := rowW_emb (rowOff s.val b) (rowOff_inb s.val b) x
  have hl : (rowS s.val b).view.read (Elt F) (GS Tm Pe L s) x = GS Tm Pe L s ((rowS s.val b).view.emb x) := rfl
  have hr : ∀ r, SparseCore.gatherPayload gathers_S367x128_S64x128 (tabW.view.read (Elt F) Pe) r x = Pe (gathers_S367x128_S64x128.idx r x) := fun r => by
    show Pe (tabW.view.emb _) = _
    rw [tabW_emb]
  rw [hl, hr]
  obtain ⟨g0, g1⟩ := idxW_emb (idxOff s b) (idxOff_inb s b) (S64.rowMajor.symm ((x 0).cast rfl))
  have hk : (S64.rowMajor.symm ((x 0).cast rfl) 0).val = (x 0).val := by
    have e := Shape.rowMajor_val_one (d := ![64]) (S64.rowMajor.symm ((x 0).cast rfl))
    exact e.symm.trans (congrArg Fin.val (Equiv.apply_symm_apply S64.rowMajor _))
  unfold GS ent
  refine congrArg Pe ?_
  have hw : (ix2 (⟨chk s ((rowS s.val b).view.emb x 1) / 8, by have := chk_lt s ((rowS s.val b).view.emb x 1); omega⟩ : Fin 20)
      (⟨base L + (64 * (chk s ((rowS s.val b).view.emb x 1) % 8) + ((rowS s.val b).view.emb x 2).val), by
        have := base_lt L; have : ((rowS s.val b).view.emb x 2).val < 64 := ((rowS s.val b).view.emb x 2).isLt; omega⟩ : Fin 16384))
      = ix2 ((idxS s b).view.emb (S64.rowMajor.symm ((x 0).cast rfl)) 0 : Fin 20)
        (⟨base L + ((idxS s b).view.emb (S64.rowMajor.symm ((x 0).cast rfl)) 1).val, by
          have := base_lt L; have : ((idxS s b).view.emb (S64.rowMajor.symm ((x 0).cast rfl)) 1).val < 512 := Fin.isLt _; omega⟩ : Fin 16384) := by
    have hb : ((rowS s.val b).view.emb x 1 : Fin 5) = b := Fin.ext h1
    refine congrArg₂ ix2 (Fin.ext ?_) (Fin.ext ?_)
    · rw [g0]; show chk s ((rowS s.val b).view.emb x 1 : Fin 5) / 8 = chk s b / 8; rw [hb]
    · show base L + (64 * (chk s ((rowS s.val b).view.emb x 1 : Fin 5) % 8) + ((rowS s.val b).view.emb x 2).val) = base L + _
      rw [hb, g1, h2, hk]; show base L + (64 * (chk s b % 8) + (0 + (x 0).val)) = base L + (64 * (chk s b % 8) + (x 0).val); omega
  rw [hw]
  funext a
  match a with
  | ⟨0, _⟩ =>
    refine Eq.trans ?_ (Shape.Gathers.idx_axis gathers_S367x128_S64x128 _ x).symm
    refine Fin.ext ?_
    exact Nat.mod_eq_of_lt (hT _)
  | ⟨1, _⟩ =>
    refine Fin.ext ?_
    refine Eq.trans ?_ (Shape.Gathers.idx_of_ne gathers_S367x128_S64x128 _ x ⟨1, by decide⟩ (by decide)).symm
    exact h3.trans (Nat.zero_add _)

/-- A chunk's rows are the output's. -/
theorem store_value (Tm : S20x16384.Idx → Elt F .i32) (Pe : S367x128.Idx → Elt F .f32) (L : grid0.Coords) (s : Fin 32) (b : Fin 5) (x : S64x128.Idx) :
    GS Tm Pe L s ((rowS s.val b).view.emb x) = OUT Tm Pe ((outS L s b).view.emb x) := by
  obtain ⟨-, h1, h2, h3⟩ := rowW_emb (rowOff s.val b) (rowOff_inb s.val b) x
  obtain ⟨o0, o1, o2⟩ := outW_emb (outOff L s b) (outOff_inb L s b) x
  have hb : ((rowS s.val b).view.emb x 1 : Fin 5) = b := Fin.ext h1
  unfold GS OUT
  have e3 : ((rowS s.val b).view.emb x 3 : Fin 128) = ((outS L s b).view.emb x 2 : Fin 128) := Fin.ext (by
    rw [h3, o2]; rfl)
  refine congrArg₂ (fun i k => ent Pe (Tm i) k) (congrArg₂ ix2 (Fin.ext ?_) (Fin.ext ?_)) e3
  · rw [o0]; show chk s ((rowS s.val b).view.emb x 1 : Fin 5) / 8 = chk s b / 8; rw [hb]
  · show base L + (64 * (chk s ((rowS s.val b).view.emb x 1 : Fin 5) % 8) + ((rowS s.val b).view.emb x 2).val) = _
    rw [hb, o1, h2]; show base L + (64 * (chk s b % 8) + (0 + (x 0).val)) = base L + 64 * (chk s b % 8) + (x 0).val; omega

/-! ## Credits -/

theorem credit_row (off : Fin 4 → ℕ) (h) : (rowW off h).view.dmaCredit = 262144 :=
  View.dmaCredit_closed _ S64x128 rfl (1 : Fin _) rfl 262144 (by decide +kernel)
theorem credit_out (off : Fin 3 → ℕ) (h) : (outW off h).view.dmaCredit = 262144 :=
  View.dmaCredit_closed _ S64x128 rfl (3 : Fin _) rfl 262144 (by decide +kernel)
theorem credit_line (off : Fin 4 → ℕ) (h) (j : Fin (S64x128.size gathers_S367x128_S64x128.axis')) :
    ((rowW off h).slice (S64x128.rowRect gathers_S367x128_S64x128.axis' j) (S64x128.stride_rowRect gathers_S367x128_S64x128.axis' j)).view.dmaCredit = 4096 :=
  View.dmaCredit_closed _ (S64x128.rowShape gathers_S367x128_S64x128.axis') rfl (1 : Fin _) rfl 4096 (by decide +kernel)

end Emb

end
-- ==== Proof.Steps.lean ====
/-
  One worker's asynchronous work, a step at a time.

  A step gathers five chunks on one semaphore and stores five chunks on another. The five gathers are one batch of 320
  row transfers (`GFire` while they are issued, `GDrain` while they are waited for); the five stores are one batch of
  five transfers (`SFire`, `SDrain`). A batch gives its deliveries back only once every unit of it is consumed.
-/
module

public import proofs.«01_k».proof.Proof.Setup

@[expose] public section

noncomputable section

namespace Emb

open Cert.KernelIdeal Cert.KernelIdeal.Gen
open Idealize.ShloMosaic
open Idealize.ShloMosaic.SparseCore (S V T)
open Idealize.ShloMosaic.SparseCore.Cfg (HIx)
open Idealize.ShloMosaic.ValueIdx
open Idealize.ShloMosaic.Rounds
open Idealize.ShloMosaic.Transfers (Batch pending)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid0.Coords) (Tm : S20x16384.Idx → Elt F .i32) (Pe : S367x128.Idx → Elt F .f32)
variable (q : PosShare TreeShare)

/-! ## What a worker owes and has waited for -/

/-- The worker owes `O` and has waited on cells it may have waited on. -/
def OW (O : CellTallies nD τ sig (HIx 1)) (W : Waits sig (HIx 1)) : sProp 𝕄 :=
  iprop(∃ W', ⌜∀ p ∈ W', p ∈ W ∨ p.2 = none ∨ p.2 = some 0⌝ ∗ owes (wk d L) O W')

theorem ow_intro (O : CellTallies nD τ sig (HIx 1)) (W : Waits sig (HIx 1)) : (owes (wk d L) O W : sProp 𝕄) ⊢ OW d L O W := by
  unfold OW
  iintro H
  iexists W
  isplitr; · ipureintro; exact fun p hp => Or.inl hp
  iexact H

/-! ## The gathers of a step -/

theorem five_pos : 0 < 5 := by decide
theorem line_pos : 0 < S64x128.size gathers_S367x128_S64x128.axis' := by decide

/-- What row `r` of gather `b` of step `s` delivers. -/
def lineOut (s : Fin 32) (b : Fin 5) (r : Fin 64) : sProp 𝕄 :=
  rowOut (wk d L) tabW (rowS s.val b) gathers_S367x128_S64x128 (idxS s b) rfl line_pos
    (pieceOf q 5 five_pos b) (pieceOf fullShare 5 five_pos b) Pe (IX Tm L) (GS Tm Pe L s) r

/-- What row transfer `t` of step `s` delivers: row `t % 64` of gather `t / 64`. -/
def GD (s : Fin 32) (t : Fin 320) : sProp 𝕄 :=
  lineOut d L Tm Pe q s ⟨t.val / 64, by omega⟩ ⟨t.val % 64, Nat.mod_lt _ (by decide)⟩

instance GD_storable (s : Fin 32) (t : Fin 320) : Storable (upEmb : UEmb _ 𝕄) (GD (F := F) d L Tm Pe q s t) := by
  unfold GD lineOut; exact rowOut_storable ..

theorem GD_at (s : Fin 32) (b : Fin 5) (r : Fin 64) (h : 64 * b.val + r.val < 320) :
    GD d L Tm Pe q s ⟨64 * b.val + r.val, h⟩ = lineOut d L Tm Pe q s b r := by
  unfold GD
  exact congrArg₂ (lineOut d L Tm Pe q s) (Fin.ext (by show (64 * b.val + r.val) / 64 = b.val; omega))
    (Fin.ext (by show (64 * b.val + r.val) % 64 = r.val; omega))

/-- Slot `b` of half `h` of the row scratch, whatever it holds. -/
def slot (h : ℕ) (b : Fin 5) : sProp 𝕄 :=
  iprop(∃ f : Buf (Elt F) ((rowS h b).view.loc (wk d L)), (rowS h b).view.loc (wk d L) ↦[(rowS h b).view.set]{fullShare} f)

/-- Slot `b` of step `s` at what its gather wrote. -/
def slotG (s : Fin 32) (b : Fin 5) : sProp 𝕄 :=
  (rowS s.val b).view.loc (wk d L) ↦[(rowS s.val b).view.set]{fullShare} GS Tm Pe L s

/-- What the gather of chunk `b` reads and writes. -/
def gIn (s : Fin 32) (b : Fin 5) : sProp 𝕄 :=
  iprop((tabW.view.loc (wk d L) ↦[tabW.view.set]{pieceOf q 5 five_pos b} Pe)
    ∗ (slot (F := F) d L s.val b)
    ∗ ((idxS s b).view.loc (wk d L) ↦[(idxS s b).view.set]{pieceOf fullShare 5 five_pos b} IX Tm L))

/-- What the gather of chunk `b` leaves of its piece of the index words. -/
def iRest (s : Fin 32) (b : Fin 5) : sProp 𝕄 :=
  (idxS s b).view.loc (wk d L) ↦[Finset.univ \ (idxS s b).view.set]{pieceOf fullShare 5 five_pos b} IX Tm L

/-- Gathers `0 … b - 1` of step `s` issued. -/
def GFire (s : Fin 32) (b : ℕ) : sProp 𝕄 :=
  iprop(bigSep (pending b : Finset (Fin 5)) (gIn d L Tm Pe q s) ∗ bigSep Finset.univ (iRest d L Tm s)
    ∗ Batch EC (wk d L) (.dma gsem) (default : HIx 1) 4096 (GD d L Tm Pe q s) (64 * b) 0)

/-- Gathers `0 … b - 1` of step `s` waited for, all five issued. -/
def GDrain (s : Fin 32) (b : ℕ) : sProp 𝕄 :=
  iprop(bigSep Finset.univ (iRest d L Tm s)
    ∗ Batch EC (wk d L) (.dma gsem) (default : HIx 1) 4096 (GD d L Tm Pe q s) 320 (b * 262144))

/-- The table and the index words as they are between steps, the gathers' semaphore at zero. -/
def GIdle : sProp 𝕄 :=
  iprop((SV.view.loc (wk d L) ↦[Finset.univ]{q} Pe) ∗ (IV.view.loc (wk d L) ↦[Finset.univ]{fullShare} IX Tm L) ∗ semVal (wk d L, SemLoc.dma gsem) 0)

/-- A worker's index words, as the five gathers' pieces, each the words its gather reads and the others. -/
theorem idx_pieces (s : Fin 32) :
    (IV.view.loc (wk d L) ↦[Finset.univ]{fullShare} IX Tm L : sProp 𝕄)
      = iprop(bigSep Finset.univ (fun b => (idxS s b).view.loc (wk d L) ↦[(idxS s b).view.set]{pieceOf fullShare 5 five_pos b} IX Tm L)
          ∗ bigSep Finset.univ (iRest d L Tm s)) := by
  rw [pointsTo_piecesOf (ℓ := IV.view.loc (wk d L)) Finset.univ (IX Tm L) five_pos fullShare, ← bigSep_sep']
  exact bigSep_congr fun b _ => by
    have e := pointsTo_split_subset (ℓ := IV.view.loc (wk d L)) (q := pieceOf fullShare 5 five_pos b) (f := IX Tm L) (Finset.subset_univ (idxS s b).view.set)
      (nD := nD) (τ := τ) (Ix := HIx 1) (Name := ℕ) (U := UU) (Lvl := ℕ)
    exact BI.equiv_iff.mp ⟨e.1, e.2⟩

theorem gStart (s : Fin 32) :
    iprop(GIdle d L Tm Pe q ∗ bigSep Finset.univ (slot (F := F) d L s.val)) ⊢ |={Set.univ}=> GFire d L Tm Pe q s 0 := by
  unfold GIdle GFire
  iintro ⟨⟨Ht, Hi, Hv⟩, Hs⟩
  imod (Transfers.batch_alloc' EC (wk d L) (default : HIx 1) 4096 (GD d L Tm Pe q s) (sm := .dma gsem) (E := Set.univ)) $$ Hv with HB
  imodintro
  ihave Ht' := (Entails.of_eq (pointsTo_piecesOf (ℓ := SV.view.loc (wk d L)) Finset.univ Pe five_pos q)) $$ Ht
  ihave Hi' := (Entails.of_eq (idx_pieces d L Tm s)) $$ Hi
  icases Hi' with ⟨Hw, Hr⟩
  isplitl [Ht' Hs Hw]
  · rw [Transfers.pending_zero]
    ihave H1 := Transfers.bigSep_sep_in _ _ _ $$ [Hs Hw]; · isplitl [Hs] <;> iassumption
    ihave H2 := Transfers.bigSep_sep_in _ _ _ $$ [Ht' H1]; · isplitl [Ht'] <;> iassumption
    rw [show bigSep Finset.univ (gIn d L Tm Pe q s) = bigSep Finset.univ fun b => iprop((SV.view.loc (wk d L) ↦[Finset.univ]{pieceOf q 5 five_pos b} Pe)
        ∗ slot (F := F) d L s.val b ∗ ((idxS s b).view.loc (wk d L) ↦[(idxS s b).view.set]{pieceOf fullShare 5 five_pos b} IX Tm L))
      from bigSep_congr fun b _ => by unfold gIn; rw [tabW_set]]
    iexact H2
  isplitl [Hr]; · iexact Hr
  iexact HB

theorem gFire {Tm} (hT : ∀ i, BitVec.toNat (Tm i) < 367) (s : Fin 32) (b : Fin 5) (off : Fin 4 → ℕ) (offI : Fin 2 → ℕ)
    (hoff : off = rowOff s.val b) (hoffI : offI = idxOff s b) (h) (hI) {Q : PUnit → sProp 𝕄} :
    GFire d L Tm Pe q s b.val ⊢ iprop((GFire d L Tm Pe q s (b.val + 1) -∗ Q ⟨⟩)
      -∗ wp frame (wpE (defs₀ (F := F)) 𝒱₀ (wk d L) none) Set.univ
        (SparseCore.enqueueIndirectGather rfl tabW (rowW off h) gathers_S367x128_S64x128 (idxW offI hI) rfl gsem (View.wordExact_bits rfl) rfl (Or.inr rfl)) Q) := by
  subst hoff; subst hoffI
  have hin : ∀ x, BitVec.toNat ((idxS s b).view.read (Elt F) (IX Tm L) x) < 367 := fun x => IX_lt hT L _
  unfold GFire
  rw [Transfers.bigSep_pending_step _ b.val b.isLt]
  unfold gIn slot
  iintro ⟨⟨⟨Ht, ⟨%fd, Hd⟩, Hi⟩, Hp⟩, Hr, HB⟩ Hk
  iapply (wp_gatherBatch_lift EC 𝒱₀ (wk d L) none (src := tabW) (dst := rowS s.val b) (offs := idxS s b) (fs := Pe) (fd := fd) (fo := IX Tm L)
    (GS Tm Pe L s) (default : HIx 1) 4096 (credit_line _ _) (by decide) hin (gather_value hT Pe L s b hin)
    (D := GD d L Tm Pe q s) (j₀ := 64 * b.val) (u := 0) (by have := b.isLt; show 64 * b.val + 64 ≤ 320; omega) (Nat.zero_le _)
    (fun r => Entails.of_eq (GD_at d L Tm Pe q s b r _).symm)) $$ [Ht Hd Hi HB]
  · isplitl [Ht]; · iexact Ht
    isplitl [Hd]; · iexact Hd
    isplitl [Hi]; · iexact Hi
    iexact HB
  iintro HB
  iapply Hk
  isplitl [Hp]; · iexact Hp
  isplitl [Hr]; · iexact Hr
  iexact HB

theorem gFired (s : Fin 32) : GFire d L Tm Pe q s 5 ⊢ GDrain d L Tm Pe q s 0 := by
  unfold GFire GDrain
  iintro ⟨-, Hr, HB⟩
  isplitl [Hr]; · iexact Hr
  iexact HB

theorem gWait (s : Fin 32) (b : ℕ) (hb : b < 5) (off : Fin 4 → ℕ) (h) {hsrc : tabW.view.WordExact} {hdst : (rowW off h).view.WordExact}
    (O : CellTallies nD τ sig (HIx 1)) (W : Waits sig (HIx 1)) {Q : PUnit → sProp 𝕄} :
    iprop(Transfers.MayWaits (wk d L) (default : HIx 1) O ∗ GDrain d L Tm Pe q s b ∗ OW d L O W)
      ⊢ iprop((iprop(GDrain d L Tm Pe q s (b + 1) ∗ OW d L O W) -∗ Q ⟨⟩)
      -∗ wp frame (wpE (defs₀ (F := F)) 𝒱₀ (wk d L) none) Set.univ
        (SparseCore.waitIndirectGather gsem tabW (rowW off h) hsrc hdst) Q) := by
  unfold GDrain OW SparseCore.waitIndirectGather
  iintro ⟨Hmw, ⟨Hr, HB⟩, ⟨%W', %hW', HO⟩⟩ Hk
  ihave Hm := (Transfers.MayWaits.elim (SemLoc.dma gsem)) $$ Hmw
  iapply (Transfers.wp_waitBatchMulO EC 𝒱₀ (wk d L) none (default : HIx 1) (N := 4096) 64 (credit_row off h)
    (D := GD d L Tm Pe q s) (j := 320) (u := b * 262144) (by omega)) $$ [HB HO Hm]
  · isplitl [HB]; · iexact HB
    isplitl [HO]; · iexact HO
    iexact Hm
  iintro ⟨HB, HO⟩
  iapply le_wp_ret
  iapply Hk
  isplitl [Hr HB]
  · isplitl [Hr]; · iexact Hr
    rw [show (b + 1) * 262144 = b * 262144 + 64 * 4096 by omega]
    iexact HB
  iexists insert (SemLoc.dma gsem, (default : HIx 1)) W'
  isplitr
  · ipureintro
    intro p hp
    rcases Finset.mem_insert.mp hp with rfl | hp
    · exact Or.inr (Or.inl rfl)
    · exact hW' p hp
  iexact HO

theorem bigSep_fives (Φ : Fin 320 → sProp 𝕄) :
    bigSep Finset.univ Φ = bigSep Finset.univ fun b : Fin 5 => bigSep Finset.univ fun r : Fin 64 => Φ ⟨64 * b.val + r.val, by omega⟩ := by
  rw [bigSep_univ_equiv (finProdFinEquiv : Fin 5 × Fin 64 ≃ Fin 320), bigSep_univ_prod]
  exact bigSep_congr fun b _ => bigSep_congr fun r _ => congrArg Φ (Fin.ext (Nat.add_comm _ _))

theorem gEnd (s : Fin 32) :
    GDrain d L Tm Pe q s 5 ⊢ |={Set.univ}=> iprop(GIdle d L Tm Pe q ∗ bigSep Finset.univ (slotG d L Tm Pe s)) := by
  have hj : bigSep Finset.univ (GD d L Tm Pe q s)
      ⊢ bigSep Finset.univ (fun b : Fin 5 => iprop(slotG d L Tm Pe s b ∗ (tabW.view.loc (wk d L) ↦[tabW.view.set]{pieceOf q 5 five_pos b} Pe)
        ∗ ((idxS s b).view.loc (wk d L) ↦[(idxS s b).view.set]{pieceOf fullShare 5 five_pos b} IX Tm L))) := by
    rw [bigSep_fives]
    exact bigSep_mono fun b _ => (Entails.of_eq (bigSep_congr fun r _ => GD_at d L Tm Pe q s b r _)).trans
      (rowOut_join (wk d L) tabW (rowS s.val b) gathers_S367x128_S64x128 (idxS s b) rfl line_pos _ _ Pe (IX Tm L) (GS Tm Pe L s))
  unfold GDrain GIdle
  iintro ⟨Hr, HB⟩
  imod (Transfers.batch_collect' EC (wk d L) (by decide)) $$ HB with ⟨HD, Hv⟩
  imodintro
  ihave H2 := hj $$ HD
  ihave H3 := Transfers.bigSep_sep_out _ _ _ $$ H2
  icases H3 with ⟨Hs, H4⟩
  ihave H5 := Transfers.bigSep_sep_out _ _ _ $$ H4
  icases H5 with ⟨Ht, Hi⟩
  isplitr [Hs]
  · isplitl [Ht]
    · rw [tabW_set]
      iapply (Entails.of_eq (pointsTo_piecesOf (ℓ := SV.view.loc (wk d L)) Finset.univ Pe five_pos q).symm) $$ Ht
    isplitr [Hv]
    · iapply (Entails.of_eq (idx_pieces d L Tm s).symm)
      isplitl [Hi] <;> iassumption
    iexact Hv
  iexact Hs

/-! ## The stores of a step -/

/-- The output rows of chunk `b` of step `s`, whatever they hold. -/
def outAny (s : Fin 32) (b : Fin 5) : sProp 𝕄 :=
  iprop(∃ f : Buf (Elt F) ((outS L s b).view.loc (wk d L)), (outS L s b).view.loc (wk d L) ↦[(outS L s b).view.set]{fullShare} f)

/-- The output rows of chunk `b` of step `s` at the output. -/
def outG (s : Fin 32) (b : Fin 5) : sProp 𝕄 :=
  (outS L s b).view.loc (wk d L) ↦[(outS L s b).view.set]{fullShare} OUT Tm Pe

/-- What the store of chunk `b` of step `s` delivers. -/
def SD (s : Fin 32) (b : Fin 5) : sProp 𝕄 := iprop(outG d L Tm Pe s b ∗ slotG d L Tm Pe s b)

instance SD_storable (s : Fin 32) (b : Fin 5) : Storable (upEmb : UEmb _ 𝕄) (SD (F := F) d L Tm Pe s b) := by
  unfold SD outG slotG; infer_instance

/-- Stores `0 … b - 1` of step `s` issued. -/
def SFire (s : Fin 32) (b : ℕ) : sProp 𝕄 :=
  iprop(bigSep (pending b : Finset (Fin 5)) (fun b' => iprop(slotG d L Tm Pe s b' ∗ outAny (F := F) d L s b'))
    ∗ Batch EC (wk d L) (.dma ssem) (default : HIx 1) 262144 (SD d L Tm Pe s) b 0)

/-- Stores `0 … b - 1` of step `s` waited for, all five issued. -/
def SDrain (s : Fin 32) (b : ℕ) : sProp 𝕄 :=
  Batch EC (wk d L) (.dma ssem) (default : HIx 1) 262144 (SD d L Tm Pe s) 5 (b * 262144)

theorem sStart (s : Fin 32) :
    iprop(semVal (wk d L, SemLoc.dma ssem) 0 ∗ bigSep Finset.univ (slotG d L Tm Pe s) ∗ bigSep Finset.univ (outAny (F := F) d L s))
      ⊢ |={Set.univ}=> SFire d L Tm Pe s 0 := by
  unfold SFire
  iintro ⟨Hv, Hs, Ho⟩
  imod (Transfers.batch_alloc' EC (wk d L) (default : HIx 1) 262144 (SD d L Tm Pe s) (sm := .dma ssem) (E := Set.univ)) $$ Hv with HB
  imodintro
  rw [Transfers.pending_zero]
  isplitr [HB]
  · iapply (Transfers.bigSep_sep_in _ _ _)
    isplitl [Hs] <;> iassumption
  iexact HB

/-- Rows written over a chunk of the output make it the output. -/
theorem stored_eq (s : Fin 32) (b : Fin 5) (fd : Buf (Elt F) ((outS L s b).view.loc (wk d L))) :
    ((outS L s b).view.loc (wk d L) ↦[(outS L s b).view.set]{fullShare}
        ((outS L s b).view.write (Elt F) fd ((ReadAs.same (Val := Elt F)).apply ((rowS s.val b).view.read (Elt F) (GS Tm Pe L s))) Finset.univ) : sProp 𝕄)
      = outG d L Tm Pe s b := by
  unfold outG
  refine pointsTo_congr fun i hi => ?_
  obtain ⟨x, -, rfl⟩ := Finset.mem_map.mp hi
  rw [View.write_emb_of_mem (v := (outS L s b).view) fd _ (Finset.mem_univ x)]
  exact store_value Tm Pe L s b x

theorem sFire (s : Fin 32) (b : Fin 5) (off : Fin 4 → ℕ) (offO : Fin 3 → ℕ)
    (hoff : off = rowOff s.val b) (hoffO : offO = outOff L s b) (h) (hO)
    {hsrc : (rowW off h).view.WordExact} {hdst : (outW offO hO).view.WordExact} {hsem} {Q : PUnit → sProp 𝕄} :
    SFire d L Tm Pe s b.val ⊢ iprop((SFire d L Tm Pe s (b.val + 1) -∗ Q ⟨⟩)
      -∗ wp frame (wpE (defs₀ (F := F)) 𝒱₀ (wk d L) none) Set.univ
        (Prog.lift (.enqueueDma (rowW off h) (.here (outW offO hO)) (.dma ssem) hsrc hdst hsem)) Q) := by
  subst hoff; subst hoffO
  unfold SFire
  rw [Transfers.bigSep_pending_step _ b.val b.isLt]
  iintro ⟨⟨⟨Hs, Ho⟩, Hp⟩, HB⟩ Hk
  unfold outAny
  icases Ho with ⟨%fd, Ho⟩
  unfold slotG Prog.lift
  iapply (Transfers.wp_dmaBatch EC 𝒱₀ (wk d L) none (src := rowS s.val b) (via := .same) (dst := outS L s b) (sm := .dma ssem)
    (fs := GS Tm Pe L s) (fd := fd) (D := SD d L Tm Pe s) (j := b.val) (u := 0) (default : HIx 1) 262144 (credit_out _ _) subset_rfl b.isLt (Nat.zero_le _)
    (by rw [stored_eq]; unfold SD slotG; exact .rfl)) $$ [Hs Ho HB]
  · isplitl [Hs]; · iexact Hs
    isplitl [Ho]; · iexact Ho
    iexact HB
  iintro HB
  iapply le_wp_ret
  iapply Hk
  isplitl [Hp]; · iexact Hp
  iexact HB

theorem sFired (s : Fin 32) : SFire d L Tm Pe s 5 ⊢ SDrain d L Tm Pe s 0 := by
  unfold SFire SDrain
  iintro ⟨-, HB⟩
  iexact HB

theorem sWait (s : Fin 32) (b : ℕ) (hb : b < 5) (off : Fin 4 → ℕ) (offO : Fin 3 → ℕ) (h) (hO')
    {hsrc : (rowW off h).view.WordExact} {hdst : (outW offO hO').view.WordExact}
    (O : CellTallies nD τ sig (HIx 1)) (W : Waits sig (HIx 1)) {Q : PUnit → sProp 𝕄} :
    iprop(Transfers.MayWaits (wk d L) (default : HIx 1) O ∗ SDrain d L Tm Pe s b ∗ OW d L O W)
      ⊢ iprop((iprop(SDrain d L Tm Pe s (b + 1) ∗ OW d L O W) -∗ Q ⟨⟩)
      -∗ wp frame (wpE (defs₀ (F := F)) 𝒱₀ (wk d L) none) Set.univ
        (Prog.lift (.waitDma2 ssem (rowW off h) (outW offO hO') hsrc hdst)) Q) := by
  unfold SDrain OW Prog.lift
  iintro ⟨Hmw, HB, ⟨%W', %hW', HO⟩⟩ Hk
  ihave Hm := (Transfers.MayWaits.elim (SemLoc.dma ssem)) $$ Hmw
  iapply (Transfers.wp_waitBatchMulO EC 𝒱₀ (wk d L) none (default : HIx 1) (N := 262144) 1 (credit_out offO hO')
    (D := SD d L Tm Pe s) (j := 5) (u := b * 262144) (by omega)) $$ [HB HO Hm]
  · isplitl [HB]; · iexact HB
    isplitl [HO]; · iexact HO
    iexact Hm
  iintro ⟨HB, HO⟩
  iapply le_wp_ret
  iapply Hk
  isplitl [HB]
  · rw [show (b + 1) * 262144 = b * 262144 + 1 * 262144 by omega]
    iexact HB
  iexists insert (SemLoc.dma ssem, (default : HIx 1)) W'
  isplitr
  · ipureintro
    intro p hp
    rcases Finset.mem_insert.mp hp with rfl | hp
    · exact Or.inr (Or.inl rfl)
    · exact hW' p hp
  iexact HO

theorem sEnd (s : Fin 32) :
    SDrain d L Tm Pe s 5 ⊢ |={Set.univ}=> iprop(semVal (wk d L, SemLoc.dma ssem) 0 ∗ bigSep Finset.univ (slotG d L Tm Pe s) ∗ bigSep Finset.univ (outG d L Tm Pe s)) := by
  unfold SDrain
  iintro HB
  imod (Transfers.batch_collect' EC (wk d L) (by decide)) $$ HB with ⟨HD, Hv⟩
  imodintro
  isplitl [Hv]; · iexact Hv
  unfold SD
  ihave H := Transfers.bigSep_sep_out _ _ _ $$ HD
  icases H with ⟨Ho, Hs⟩
  isplitl [Hs] <;> iassumption

theorem slotG_slot (s : Fin 32) (b : Fin 5) : slotG d L Tm Pe s b ⊢ slot (F := F) d L s.val b := by
  unfold slotG slot
  iintro H
  iexists _
  iexact H

end Emb

end
-- ==== Proof.Loop.lean ====
/-
  The loop of a worker: what holds before step `k`, and that the steps keep it.

  Before step `k` the gathers of step `k` are all issued, the stores of step `k - 1` are all issued, the output's chunks
  of the steps before `k - 1` are written and those from step `k` on are not begun.
-/
module

public import proofs.«01_k».proof.Proof.Steps

@[expose] public section

noncomputable section

namespace Emb

open Cert.KernelIdeal Cert.KernelIdeal.Gen
open Idealize.ShloMosaic
open Idealize.ShloMosaic.SparseCore (S V T)
open Idealize.ShloMosaic.SparseCore.Cfg (HIx)
open Idealize.ShloMosaic.ValueIdx
open Idealize.ShloMosaic.Rounds
open Idealize.ShloMosaic.Transfers (Batch pending)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid0.Coords) (Tm : S20x16384.Idx → Elt F .i32) (Pe : S367x128.Idx → Elt F .f32)
variable (q : PosShare TreeShare) (O : CellTallies nD τ sig (HIx 1)) (W : Waits sig (HIx 1))

/-! ## The invariant -/

theorem slot_parity {h h' : ℕ} (e : h % 2 = h' % 2) : slot (F := F) d L h = slot d L h' := by
  have key : ∀ (o o' : Fin 4 → ℕ) (ho) (ho'), o = o' →
      (iprop(∃ f : Buf (Elt F) ((rowW o ho).view.loc (wk d L)), (rowW o ho).view.loc (wk d L) ↦[(rowW o ho).view.set]{fullShare} f) : sProp 𝕄)
        = iprop(∃ f : Buf (Elt F) ((rowW o' ho').view.loc (wk d L)), (rowW o' ho').view.loc (wk d L) ↦[(rowW o' ho').view.set]{fullShare} f) := by
    rintro o _ ho ho' rfl; rfl
  funext b
  exact key _ _ _ _ (by unfold rowOff; rw [e])

/-- The gathers of step `k` under way; past the last step, the table, the index words and the row scratch idle. -/
def GP (k : ℕ) : sProp 𝕄 :=
  if h : k < 32 then GDrain d L Tm Pe q ⟨k, h⟩ 0 else iprop(GIdle d L Tm Pe q ∗ bigSep Finset.univ (slot (F := F) d L k))

/-- The stores of step `k - 1` under way; before the first step, the other half of the row scratch idle. -/
def SP (k : ℕ) : sProp 𝕄 :=
  if h : 1 ≤ k ∧ k ≤ 32 then SDrain d L Tm Pe ⟨k - 1, by omega⟩ 0
  else iprop(semVal (wk d L, SemLoc.dma ssem) 0 ∗ bigSep Finset.univ (slot (F := F) d L (k + 1)))

/-- The output's chunks of step `k` on, whatever they hold. -/
def outsAny (k : ℕ) : sProp 𝕄 := bigSep (pending k : Finset (Fin 32)) fun s => bigSep Finset.univ (outAny (F := F) d L s)

/-- The output's chunks of the steps before `k`, written. -/
def outsG (k : ℕ) : sProp 𝕄 := bigSep (Finset.univ.filter (fun s : Fin 32 => s.val < k)) fun s => bigSep Finset.univ (outG d L Tm Pe s)

theorem outsAny_step (s : Fin 32) : outsAny (F := F) d L s.val = iprop(bigSep Finset.univ (outAny (F := F) d L s) ∗ outsAny (F := F) d L (s.val + 1)) := by
  unfold outsAny
  exact Transfers.bigSep_pending_step _ s.val s.isLt

theorem outsG_zero : outsG d L Tm Pe 0 = (iprop(emp) : sProp 𝕄) := by
  unfold outsG
  rw [show (Finset.univ.filter fun s : Fin 32 => s.val < 0) = ∅ from by ext; simp, bigSep_empty]
  rfl

theorem outsG_step (s : Fin 32) : outsG d L Tm Pe (s.val + 1) = iprop(bigSep Finset.univ (outG d L Tm Pe s) ∗ outsG d L Tm Pe s.val) := by
  unfold outsG
  rw [show (Finset.univ.filter fun t : Fin 32 => t.val < s.val + 1) = insert s (Finset.univ.filter fun t : Fin 32 => t.val < s.val) from by
    ext t; simp only [Finset.mem_filter, Finset.mem_univ, true_and, Finset.mem_insert, Fin.ext_iff]; omega]
  exact bigSep_insert (by simp)

/-- What holds before step `k`. -/
def Inv (k : ℕ) : sProp 𝕄 :=
  iprop(Transfers.MayWaits (wk d L) (default : HIx 1) O ∗ OW d L O W ∗ GP d L Tm Pe q k ∗ SP d L Tm Pe k
    ∗ outsAny (F := F) d L k ∗ outsG d L Tm Pe (k - 1))

/-! ## The parts of a step -/

/-- The first two of a step's waits for its gathers. -/
theorem part4 (s : Fin 32) (t : Fin k0_t1_loop.trips) (x y : BitVec 32) {Q : _ → sProp 𝕄} :
    iprop(Transfers.MayWaits (wk d L) (default : HIx 1) O ∗ GDrain d L Tm Pe q s 0 ∗ OW d L O W)
      ⊢ iprop((∀ r, iprop(GDrain d L Tm Pe q s 2 ∗ OW d L O W) -∗ Q r)
      -∗ wp frame (wpE (defs₀ (F := F)) 𝒱₀ (wk d L) none) Set.univ
        (k0_part4 (F := F) L TV (Memref.isWhole_whole _) PV (Memref.isWhole_whole _) OV (Memref.isWhole_whole _) IV (Memref.isWhole_whole _)
          RV (Memref.isWhole_whole _) SV (Memref.isWhole_whole _) cc0_scratch3 cc0_scratch4 cc0_scoped0 cc0_scoped1 x y t) Q) := by
  rw [k0_part4_eq_skeleton]; unfold k0_part4_skel
  simp only [wp_bind]
  iintro ⟨#Hmw, HG, HO⟩ Hk
  iapply (gWait d L Tm Pe q s 0 (by decide) _ _ O W) $$ [HG HO]
  · isplitl []; · iexact Hmw
    isplitl [HG] <;> iassumption
  iintro ⟨HG, HO⟩
  iapply (gWait d L Tm Pe q s 1 (by decide) _ _ O W) $$ [HG HO]
  · isplitl []; · iexact Hmw
    isplitl [HG] <;> iassumption
  iintro HGO
  iapply le_wp_ret
  iapply Hk
  iexact HGO

theorem part5_first (s : Fin 32) (t : Fin k0_t1_loop.trips) (hc : ¬ k0_cond2 t = 1#1) (v2 x y : BitVec 32) {Q : _ → sProp 𝕄} :
    iprop(Transfers.MayWaits (wk d L) (default : HIx 1) O ∗ GDrain d L Tm Pe q s 2 ∗ OW d L O W)
      ⊢ iprop((∀ r, iprop(GDrain d L Tm Pe q s 5 ∗ OW d L O W) -∗ Q r)
      -∗ wp frame (wpE (defs₀ (F := F)) 𝒱₀ (wk d L) none) Set.univ
        (k0_part5 (F := F) L TV (Memref.isWhole_whole _) PV (Memref.isWhole_whole _) OV (Memref.isWhole_whole _) IV (Memref.isWhole_whole _)
          RV (Memref.isWhole_whole _) SV (Memref.isWhole_whole _) cc0_scratch3 cc0_scratch4 cc0_scoped0 cc0_scoped1 v2 t x y) Q) := by
  rw [k0_part5_eq_skeleton]; unfold k0_part5_skel
  rw [dif_neg hc]
  simp only [wp_bind]
  iintro ⟨#Hmw, HG, HO⟩ Hk
  iapply (gWait d L Tm Pe q s 2 (by decide) _ _ O W) $$ [HG HO]
  · isplitl []; · iexact Hmw
    isplitl [HG] <;> iassumption
  iintro ⟨HG, HO⟩
  iapply (gWait d L Tm Pe q s 3 (by decide) _ _ O W) $$ [HG HO]
  · isplitl []; · iexact Hmw
    isplitl [HG] <;> iassumption
  iintro ⟨HG, HO⟩
  iapply (gWait d L Tm Pe q s 4 (by decide) _ _ O W) $$ [HG HO]
  · isplitl []; · iexact Hmw
    isplitl [HG] <;> iassumption
  iintro ⟨HG, HO⟩
  iapply le_wp_ret
  iapply Hk
  isplitl [HG] <;> iassumption

/-- The rest of a step's waits for its gathers and, past the first step, the waits for the stores of the step before. -/
theorem part5_next (s s' : Fin 32) (t : Fin k0_t1_loop.trips) (hc : k0_cond2 t = 1#1) (v2 x y : BitVec 32) {Q : _ → sProp 𝕄} :
    iprop(Transfers.MayWaits (wk d L) (default : HIx 1) O ∗ GDrain d L Tm Pe q s 2 ∗ SDrain d L Tm Pe s' 0 ∗ OW d L O W)
      ⊢ iprop((∀ r, iprop(GDrain d L Tm Pe q s 5 ∗ SDrain d L Tm Pe s' 5 ∗ OW d L O W) -∗ Q r)
      -∗ wp frame (wpE (defs₀ (F := F)) 𝒱₀ (wk d L) none) Set.univ
        (k0_part5 (F := F) L TV (Memref.isWhole_whole _) PV (Memref.isWhole_whole _) OV (Memref.isWhole_whole _) IV (Memref.isWhole_whole _)
          RV (Memref.isWhole_whole _) SV (Memref.isWhole_whole _) cc0_scratch3 cc0_scratch4 cc0_scoped0 cc0_scoped1 v2 t x y) Q) := by
  rw [k0_part5_eq_skeleton]; unfold k0_part5_skel
  rw [dif_pos hc]
  simp only [wp_bind, k0_part1_eq_skeleton, k0_part1_skel, k0_part2_eq_skeleton, k0_part2_skel]
  iintro ⟨#Hmw, HG, HS, HO⟩ Hk
  iapply (gWait d L Tm Pe q s 2 (by decide) _ _ O W) $$ [HG HO]
  · isplitl []; · iexact Hmw
    isplitl [HG] <;> iassumption
  iintro ⟨HG, HO⟩
  iapply (gWait d L Tm Pe q s 3 (by decide) _ _ O W) $$ [HG HO]
  · isplitl []; · iexact Hmw
    isplitl [HG] <;> iassumption
  iintro ⟨HG, HO⟩
  iapply (gWait d L Tm Pe q s 4 (by decide) _ _ O W) $$ [HG HO]
  · isplitl []; · iexact Hmw
    isplitl [HG] <;> iassumption
  iintro ⟨HG, HO⟩
  iapply (sWait d L Tm Pe s' 0 (by decide) _ _ _ _ O W) $$ [HS HO]
  · isplitl []; · iexact Hmw
    isplitl [HS] <;> iassumption
  iintro ⟨HS, HO⟩
  iapply (sWait d L Tm Pe s' 1 (by decide) _ _ _ _ O W) $$ [HS HO]
  · isplitl []; · iexact Hmw
    isplitl [HS] <;> iassumption
  iintro ⟨HS, HO⟩
  iapply le_wp_ret
  iapply (sWait d L Tm Pe s' 2 (by decide) _ _ _ _ O W) $$ [HS HO]
  · isplitl []; · iexact Hmw
    isplitl [HS] <;> iassumption
  iintro ⟨HS, HO⟩
  iapply (sWait d L Tm Pe s' 3 (by decide) _ _ _ _ O W) $$ [HS HO]
  · isplitl []; · iexact Hmw
    isplitl [HS] <;> iassumption
  iintro ⟨HS, HO⟩
  iapply le_wp_ret
  iapply (sWait d L Tm Pe s' 4 (by decide) _ _ _ _ O W) $$ [HS HO]
  · isplitl []; · iexact Hmw
    isplitl [HS] <;> iassumption
  iintro ⟨HS, HO⟩
  iapply le_wp_ret
  iapply Hk
  isplitl [HG]; · iexact HG
  isplitl [HS] <;> iassumption

/-! ### The program's spellings of the row scratch's slots -/

theorem off3_row (t : Fin k0_t1_loop.trips) : k0_off3 t = rowOff (st t).val 0 := k0_off3_eq t
theorem off5_row (t : Fin k0_t1_loop.trips) : k0_off5 t = rowOff (st t).val 1 := k0_off5_eq t
theorem off6_row (t : Fin k0_t1_loop.trips) : k0_off6 t = rowOff (st t).val 2 := k0_off6_eq t
theorem off7_row (t : Fin k0_t1_loop.trips) : k0_off7 t = rowOff (st t).val 3 := k0_off7_eq t
theorem off8_row (t : Fin k0_t1_loop.trips) : k0_off8 t = rowOff (st t).val 4 := k0_off8_eq t

theorem half_succ (t : Fin k0_t1_loop.trips) : 1 - t.val % 2 = (t.val + 1) % 2 := by omega

theorem off15_row (t : Fin k0_t1_loop.trips) : k0_off15 t = rowOff (t.val + 1) 0 := by
  rw [k0_off15_eq, half_succ]; rfl
theorem off17_row (t : Fin k0_t1_loop.trips) : k0_off17 t = rowOff (t.val + 1) 1 := by
  rw [k0_off17_eq, half_succ]; rfl
theorem off18_row (t : Fin k0_t1_loop.trips) : k0_off18 t = rowOff (t.val + 1) 2 := by
  rw [k0_off18_eq, half_succ]; rfl
theorem off19_row (t : Fin k0_t1_loop.trips) : k0_off19 t = rowOff (t.val + 1) 3 := by
  rw [k0_off19_eq, half_succ]; rfl
theorem off20_row (t : Fin k0_t1_loop.trips) : k0_off20 t = rowOff (t.val + 1) 4 := by
  rw [k0_off20_eq, half_succ]; rfl

/-- The last step issues only the stores. -/
theorem part6_last (t : Fin k0_t1_loop.trips) (hc : ¬ k0_cond3 t = 1#1) (v2 x y z w : BitVec 32) {Q : _ → sProp 𝕄} :
    SFire d L Tm Pe (st t) 0
      ⊢ iprop((∀ r, SFire d L Tm Pe (st t) 2 -∗ Q r)
      -∗ wp frame (wpE (defs₀ (F := F)) 𝒱₀ (wk d L) none) Set.univ
        (k0_part6 (F := F) L TV (Memref.isWhole_whole _) PV (Memref.isWhole_whole _) OV (Memref.isWhole_whole _) IV (Memref.isWhole_whole _)
          RV (Memref.isWhole_whole _) SV (Memref.isWhole_whole _) cc0_scratch3 cc0_scratch4 cc0_scoped0 cc0_scoped1 v2 t x y z w) Q) := by
  rw [k0_part6_eq_skeleton]; unfold k0_part6_skel
  rw [dif_neg hc]
  simp only [wp_bind]
  iintro HS Hk
  iapply (sFire d L Tm Pe (st t) 0 _ _ (off3_row t) (k0_off21_chk L t 0) _ _) $$ [HS]
  · iexact HS
  iintro HS
  iapply (sFire d L Tm Pe (st t) 1 _ _ (off5_row t) (k0_off21_chk L t 1) _ _) $$ [HS]
  · iexact HS
  iintro HS
  iapply le_wp_ret
  iapply Hk
  iexact HS

/-- A step but the last issues the next step's gathers, then the first two of its stores. -/
theorem part6_next {Tm} (hT : ∀ i, BitVec.toNat (Tm i) < 367) (t : Fin k0_t1_loop.trips) (ht : t.val + 1 < 32) (v2 x y z w : BitVec 32)
    {Q : _ → sProp 𝕄} :
    iprop(GFire d L Tm Pe q ⟨t.val + 1, ht⟩ 0 ∗ SFire d L Tm Pe (st t) 0)
      ⊢ iprop((∀ r, iprop(GFire d L Tm Pe q ⟨t.val + 1, ht⟩ 5 ∗ SFire d L Tm Pe (st t) 2) -∗ Q r)
      -∗ wp frame (wpE (defs₀ (F := F)) 𝒱₀ (wk d L) none) Set.univ
        (k0_part6 (F := F) L TV (Memref.isWhole_whole _) PV (Memref.isWhole_whole _) OV (Memref.isWhole_whole _) IV (Memref.isWhole_whole _)
          RV (Memref.isWhole_whole _) SV (Memref.isWhole_whole _) cc0_scratch3 cc0_scratch4 cc0_scoped0 cc0_scoped1 v2 t x y z w) Q) := by
  rw [k0_part6_eq_skeleton]; unfold k0_part6_skel
  rw [dif_pos ((k0_cond3_iff t).mpr ht)]
  simp only [wp_bind, k0_part3_eq_skeleton, k0_part3_skel]
  iintro ⟨HG, HS⟩ Hk
  iapply (gFire d L Pe q hT ⟨t.val + 1, ht⟩ 0 _ _ (off15_row t) (k0_off16_chk t ht 0) _ _) $$ [HG]
  · iexact HG
  iintro HG
  iapply (gFire d L Pe q hT ⟨t.val + 1, ht⟩ 1 _ _ (off17_row t) (k0_off16_chk t ht 1) _ _) $$ [HG]
  · iexact HG
  iintro HG
  iapply le_wp_ret
  iapply (gFire d L Pe q hT ⟨t.val + 1, ht⟩ 2 _ _ (off18_row t) (k0_off16_chk t ht 2) _ _) $$ [HG]
  · iexact HG
  iintro HG
  iapply (gFire d L Pe q hT ⟨t.val + 1, ht⟩ 3 _ _ (off19_row t) (k0_off16_chk t ht 3) _ _) $$ [HG]
  · iexact HG
  iintro HG
  iapply (gFire d L Pe q hT ⟨t.val + 1, ht⟩ 4 _ _ (off20_row t) (k0_off16_chk t ht 4) _ _) $$ [HG]
  · iexact HG
  iintro HG
  iapply (sFire d L Tm Pe (st t) 0 _ _ (off3_row t) (k0_off21_chk L t 0) _ _) $$ [HS]
  · iexact HS
  iintro HS
  iapply (sFire d L Tm Pe (st t) 1 _ _ (off5_row t) (k0_off21_chk L t 1) _ _) $$ [HS]
  · iexact HS
  iintro HS
  iapply le_wp_ret
  iapply Hk
  isplitl [HG]; · iexact HG
  iexact HS

/-- Two more stores. -/
theorem part7 (t : Fin k0_t1_loop.trips) (v2 x y : BitVec 32) {Q : _ → sProp 𝕄} :
    SFire d L Tm Pe (st t) 2
      ⊢ iprop((∀ r, SFire d L Tm Pe (st t) 4 -∗ Q r)
      -∗ wp frame (wpE (defs₀ (F := F)) 𝒱₀ (wk d L) none) Set.univ
        (k0_part7 (F := F) L TV (Memref.isWhole_whole _) PV (Memref.isWhole_whole _) OV (Memref.isWhole_whole _) IV (Memref.isWhole_whole _)
          RV (Memref.isWhole_whole _) SV (Memref.isWhole_whole _) cc0_scratch3 cc0_scratch4 cc0_scoped0 cc0_scoped1 v2 t x y) Q) := by
  rw [k0_part7_eq_skeleton]; unfold k0_part7_skel
  simp only [wp_bind]
  iintro HS Hk
  iapply (sFire d L Tm Pe (st t) 2 _ _ (off6_row t) (k0_off21_chk L t 2) _ _) $$ [HS]
  · iexact HS
  iintro HS
  iapply (sFire d L Tm Pe (st t) 3 _ _ (off7_row t) (k0_off21_chk L t 3) _ _) $$ [HS]
  · iexact HS
  iintro HS
  iapply le_wp_ret
  iapply Hk
  iexact HS

/-! ## The loop -/

/-- The step's trip once its gathers and the stores before it are all waited for. -/
theorem tail (t : Fin k0_t1_loop.trips) {Q : Unit → sProp 𝕄} :
    SFire d L Tm Pe (st t) 4
      ⊢ iprop((SDrain d L Tm Pe (st t) 0 -∗ Q ⟨⟩)
      -∗ wp frame (wpE (defs₀ (F := F)) 𝒱₀ (wk d L) none) Set.univ
        (Prog.lift (.enqueueDma (rowW (k0_off8 t) (k0_off8_inb t)) (.here (outW (k0_off21 L t 4#32) (k0_off21_inb L t 4))) (.dma ssem)
          ((View.wordExact_bits rfl).reshape _ _) ((View.wordExact_bits rfl).reshape _ _) ⟨Or.inl rfl, trivial⟩)) Q) := by
  iintro HS Hk
  iapply (sFire d L Tm Pe (st t) 4 _ _ (off8_row t) (k0_off21_chk L t 4) _ _) $$ [HS]
  · iexact HS
  iintro HS
  iapply Hk
  iapply (sFired d L Tm Pe (st t))
  iexact HS

theorem slots_of_slotG (s : Fin 32) : bigSep Finset.univ (slotG d L Tm Pe s) ⊢ bigSep Finset.univ (slot (F := F) d L s.val) :=
  bigSep_mono fun b _ => slotG_slot d L Tm Pe s b

/-- What lies between a step's waits and its transfers: its gathers delivered, and the other half of the scratch free. -/
def Mid (k : ℕ) (s : Fin 32) : sProp 𝕄 :=
  iprop(GIdle d L Tm Pe q ∗ bigSep Finset.univ (slotG d L Tm Pe s) ∗ semVal (wk d L, SemLoc.dma ssem) 0
    ∗ bigSep Finset.univ (slot (F := F) d L (k + 1)) ∗ outsG d L Tm Pe k)

/-- The step's trip from its waits done. -/
theorem issue {Tm} (hT : ∀ i, BitVec.toNat (Tm i) < 367) (t : Fin k0_t1_loop.trips) (v2 x y z w : BitVec 32) :
    iprop(Transfers.MayWaits (wk d L) (default : HIx 1) O ∗ OW d L O W ∗ Mid d L Tm Pe q t.val (st t) ∗ outsAny (F := F) d L t.val)
      ⊢ |={Set.univ}=> wp frame (wpE (defs₀ (F := F)) 𝒱₀ (wk d L) none) Set.univ
        (k0_part6 (F := F) L TV (Memref.isWhole_whole _) PV (Memref.isWhole_whole _) OV (Memref.isWhole_whole _) IV (Memref.isWhole_whole _)
          RV (Memref.isWhole_whole _) SV (Memref.isWhole_whole _) cc0_scratch3 cc0_scratch4 cc0_scoped0 cc0_scoped1 v2 t x y z w)
        (fun v195 => wp frame (wpE (defs₀ (F := F)) 𝒱₀ (wk d L) none) Set.univ
          (k0_part7 (F := F) L TV (Memref.isWhole_whole _) PV (Memref.isWhole_whole _) OV (Memref.isWhole_whole _) IV (Memref.isWhole_whole _)
          RV (Memref.isWhole_whole _) SV (Memref.isWhole_whole _) cc0_scratch3 cc0_scratch4 cc0_scoped0 cc0_scoped1 v2 t x v195)
          (fun _ => wp frame (wpE (defs₀ (F := F)) 𝒱₀ (wk d L) none) Set.univ
            (Prog.lift (.enqueueDma (rowW (k0_off8 t) (k0_off8_inb t)) (.here (outW (k0_off21 L t 4#32) (k0_off21_inb L t 4))) (.dma ssem)
              ((View.wordExact_bits rfl).reshape _ _) ((View.wordExact_bits rfl).reshape _ _) ⟨Or.inl rfl, trivial⟩))
            (fun _ => wp frame (wpE (defs₀ (F := F)) 𝒱₀ (wk d L) none) Set.univ (pure ()) (fun _ => Inv d L Tm Pe q O W (t.val + 1))))) := by
  have ht32 : t.val < 32 := lt_of_lt_of_eq t.isLt trips_eq
  unfold Mid
  rw [show outsAny (F := F) d L t.val = iprop(bigSep Finset.univ (outAny (F := F) d L (st t)) ∗ outsAny (F := F) d L (t.val + 1)) from outsAny_step d L (st t)]
  iintro ⟨Hmw, HO, ⟨HI, Hs, Hv, Hf, Hg⟩, Ha, Hr⟩
  imod (sStart d L Tm Pe (st t)) $$ [Hv Hs Ha] with HS
  · isplitl [Hv]; · iexact Hv
    isplitl [Hs] <;> iassumption
  have hSP : SDrain d L Tm Pe (st t) 0 = SP d L Tm Pe (t.val + 1) := by
    unfold SP; rw [dif_pos ⟨by omega, by omega⟩]; rfl
  by_cases ht : t.val + 1 < 32
  · imod (gStart d L Tm Pe q ⟨t.val + 1, ht⟩) $$ [HI Hf] with HG
    · isplitl [HI] <;> iassumption
    imodintro
    iapply (part6_next d L Pe q hT t ht v2 x y z w) $$ [HG HS]
    · isplitl [HG] <;> iassumption
    iintro %r ⟨HG, HS⟩
    iapply (part7 d L Tm Pe t v2 x r) $$ [HS]
    · iexact HS
    iintro %r' HS
    iapply (tail d L Tm Pe t) $$ [HS]
    · iexact HS
    iintro HS
    iapply le_wp_ret
    unfold Inv
    isplitl [Hmw]; · iexact Hmw
    isplitl [HO]; · iexact HO
    isplitl [HG]
    · unfold GP; rw [dif_pos ht]
      iapply (gFired d L Tm Pe q ⟨t.val + 1, ht⟩) $$ HG
    isplitl [HS]
    · rw [← hSP]; iexact HS
    isplitl [Hr]; · iexact Hr
    iexact Hg
  · imodintro
    iapply (part6_last d L Tm Pe t (fun h => ht ((k0_cond3_iff t).mp h)) v2 x y z w) $$ [HS]
    · iexact HS
    iintro %r HS
    iapply (part7 d L Tm Pe t v2 x r) $$ [HS]
    · iexact HS
    iintro %r' HS
    iapply (tail d L Tm Pe t) $$ [HS]
    · iexact HS
    iintro HS
    iapply le_wp_ret
    unfold Inv
    isplitl [Hmw]; · iexact Hmw
    isplitl [HO]; · iexact HO
    isplitl [HI Hf]
    · unfold GP; rw [dif_neg ht]
      isplitl [HI] <;> iassumption
    isplitl [HS]
    · rw [← hSP]; iexact HS
    isplitl [Hr]; · iexact Hr
    iexact Hg

/-- A step keeps the invariant. -/
theorem step {Tm} (hT : ∀ i, BitVec.toNat (Tm i) < 367) (v2 : BitVec 32) (t : Fin k0_t1_loop.trips) (acc : Unit) :
    Inv d L Tm Pe q O W t.val
      ⊢ wp frame (wpE (defs₀ (F := F)) 𝒱₀ (wk d L) none) Set.univ
        (k0_t1_body (F := F) L TV (Memref.isWhole_whole _) PV (Memref.isWhole_whole _) OV (Memref.isWhole_whole _) IV (Memref.isWhole_whole _)
          RV (Memref.isWhole_whole _) SV (Memref.isWhole_whole _) cc0_scratch3 cc0_scratch4 cc0_scoped0 cc0_scoped1 v2 t acc) (fun _ => Inv d L Tm Pe q O W (t.val + 1)) := by
  have ht32 : t.val < 32 := lt_of_lt_of_eq t.isLt trips_eq
  unfold k0_t1_body
  simp only [wp_bind]
  rw [show Inv d L Tm Pe q O W t.val = iprop(Transfers.MayWaits (wk d L) (default : HIx 1) O ∗ OW d L O W ∗ GDrain d L Tm Pe q (st t) 0
    ∗ SP d L Tm Pe t.val ∗ outsAny (F := F) d L t.val ∗ outsG d L Tm Pe (t.val - 1)) from by
      unfold Inv GP; rw [dif_pos ht32]; rfl]
  iintro ⟨#Hmw, HO, HG, HS, Ha, Hg⟩
  iapply (part4 d L Tm Pe q O W (st t) t _ _) $$ [HG HO]
  · isplitl []; · iexact Hmw
    isplitl [HG] <;> iassumption
  iintro %r ⟨HG, HO⟩
  obtain ⟨r1, r2⟩ := r
  by_cases h0 : t.val = 0
  · iapply (part5_first d L Tm Pe q O W (st t) t (fun h => by have := (k0_cond2_iff t).mp h; omega) _ _ _) $$ [HG HO]
    · isplitl []; · iexact Hmw
      isplitl [HG] <;> iassumption
    iintro %r' ⟨HG, HO⟩
    obtain ⟨r3, r4⟩ := r'
    imod (gEnd d L Tm Pe q (st t)) $$ HG with ⟨HI, Hs⟩
    ihave HS' := (Entails.of_eq (show SP d L Tm Pe t.val = iprop(semVal (wk d L, SemLoc.dma ssem) 0 ∗ bigSep Finset.univ (slot (F := F) d L (t.val + 1)))
      from by unfold SP; rw [dif_neg (fun h => by omega)])) $$ HS
    icases HS' with ⟨Hv, Hf⟩
    imod (issue d L Pe q O W hT t v2 r1 r2 r3 r4) $$ [HO HI Hs Hv Hf Hg Ha] with H
    · isplitl []; · iexact Hmw
      isplitl [HO]; · iexact HO
      isplitr [Ha]
      · unfold Mid
        isplitl [HI]; · iexact HI
        isplitl [Hs]; · iexact Hs
        isplitl [Hv]; · iexact Hv
        isplitl [Hf]; · iexact Hf
        rw [show t.val - 1 = t.val by omega]
        iexact Hg
      iexact Ha
    iexact H
  · have hs : t.val - 1 < 32 := by omega
    ihave HS := (Entails.of_eq (show SP d L Tm Pe t.val = SDrain d L Tm Pe ⟨t.val - 1, hs⟩ 0 from by unfold SP; rw [dif_pos ⟨by omega, by omega⟩])) $$ HS
    iapply (part5_next d L Tm Pe q O W (st t) ⟨t.val - 1, hs⟩ t ((k0_cond2_iff t).mpr (by omega)) _ _ _) $$ [HG HS HO]
    · isplitl []; · iexact Hmw
      isplitl [HG]; · iexact HG
      isplitl [HS] <;> iassumption
    iintro %r' ⟨HG, HS, HO⟩
    obtain ⟨r3, r4⟩ := r'
    imod (gEnd d L Tm Pe q (st t)) $$ HG with ⟨HI, Hs⟩
    imod (sEnd d L Tm Pe ⟨t.val - 1, hs⟩) $$ HS with ⟨Hv, Hf, Ho⟩
    imod (issue d L Pe q O W hT t v2 r1 r2 r3 r4) $$ [HO HI Hs Hv Hf Hg Ha Ho] with H
    · isplitl []; · iexact Hmw
      isplitl [HO]; · iexact HO
      isplitr [Ha]
      · unfold Mid
        isplitl [HI]; · iexact HI
        isplitl [Hs]; · iexact Hs
        isplitl [Hv]; · iexact Hv
        isplitl [Hf]
        · rw [slot_parity d L (show (t.val + 1) % 2 = (t.val - 1) % 2 by omega)]
          iapply (slots_of_slotG d L Tm Pe ⟨t.val - 1, hs⟩) $$ Hf
        rw [show outsG d L Tm Pe t.val = outsG d L Tm Pe ((⟨t.val - 1, hs⟩ : Fin 32).val + 1) from
          congrArg _ (by show t.val = t.val - 1 + 1; omega), outsG_step]
        isplitl [Ho] <;> iassumption
      iexact Ha
    iexact H

end Emb

end
-- ==== Proof.Pay.lean ====
/-
  What the call's handshakes and the subcore barrier carry.

  The table reaches the workers through the barrier: a SparseCore's tile 0 copies it into the shared memory, and its duty
  in tile `j`'s round hands tile `j` one sixteenth of the share of it. The other duties hand over nothing.
-/
module

public import proofs.«01_k».proof.Proof.Loop

@[expose] public section

noncomputable section

namespace Emb

open Cert.KernelIdeal Cert.KernelIdeal.Gen
open Idealize.ShloMosaic
open Idealize.ShloMosaic.SparseCore (S V T)
open Idealize.ShloMosaic.SparseCore.Cfg (HIx Pay)
open Idealize.ShloMosaic.ValueIdx
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The SparseCore and the tile of the grid's point. -/
abbrev coreOf (c : Fin ((K (F := F)).nCore 0)) : Fin τ.nSC := (K (F := F)).core 0 c
abbrev subOf (i : Fin ((K (F := F)).nSub 0)) : Fin τ.nSub := (K (F := F)).sub 0 i

/-- The grid's point `(c, s)`. -/
def coordsV (c : Fin (grid0.bound 0)) (s : Fin (grid0.bound 1)) : grid0.Coords :=
  fun | 0 => c | 1 => s | ⟨_ + 2, h⟩ => absurd h (Nat.not_lt.2 (Nat.le_add_left _ _))

/-- A SparseCore's shared memory for the table. -/
abbrev shRef (c : Fin τ.nSC) : DevRef τ sig := ⟨.shared, ⟨0, by decide⟩, c⟩
abbrev shLoc (d : Dev nD) (c : Fin τ.nSC) : Loc nD τ sig := (d, shRef c)

theorem two_pos : 0 < 2 := by decide
theorem sixteen_pos : 0 < 16 := by decide

/-- Tile `j`'s piece of the share of the table in shared memory. -/
abbrev sq (j : Fin 16) : PosShare TreeShare := pieceOf fullShare 16 sixteen_pos j
/-- SparseCore `c`'s piece of the share of the inputs. -/
abbrev cq (c : Fin 2) : PosShare TreeShare := pieceOf fullShare 2 two_pos c
/-- Tile `(c, j)`'s piece of the share of the inputs. -/
abbrev tq (c : Fin 2) (j : Fin 16) : PosShare TreeShare := pieceOf (cq c) 16 sixteen_pos j

variable (Tm : Dev nD → S20x16384.Idx → Elt F .i32) (Pe : Dev nD → S367x128.Idx → Elt F .f32)

/-! ## The barrier's rounds -/

/-- Tile `(c, j)`'s barrier semaphore of device `d`. -/
abbrev bcell (d : Dev nD) (c : Fin τ.nSC) (j : Fin τ.nSub) : GSem nD τ sig := (V d c j, .reg sc_bar0)

theorem bar_ne_go : (sc_bar0 : Sem sig) ≠ sc_go := by decide

/-- What duty `n` of a tile's round hands over. -/
def bPay (g : GSem nD τ sig) (n : ℕ) : sProp 𝕄 :=
  match g with
  | ((d, .scVector c j), _) => if n = 0 then iprop(shLoc d c ↦[Finset.univ]{sq j} Pe d) else iprop(emp)
  | _ => iprop(emp)

/-- One round on each barrier semaphore, of one unit duty per tile of the SparseCore. -/
def bRd : Rounds.Schedule (GSem nD τ sig) ℕ 𝕄 where
  duties g r := match g with
    | ((_, .scVector _ _), sm) => if sm = .reg sc_bar0 ∧ r = 0 then Finset.range 16 else ∅
    | _ => ∅
  amount _ _ _ := 1
  payload g _ n := bPay Pe g n
  amount_pos _ _ _ _ := Nat.one_pos

instance bRd_payload_storable (g : GSem nD τ sig) (r n : ℕ) : BI.Storable (upEmb : UEmb _ 𝕄) ((bRd Pe).payload g r n) := by
  show BI.Storable upEmb (bPay Pe g n)
  unfold bPay
  rcases g with ⟨⟨d, _ | c | ⟨c, i⟩⟩, sm⟩ <;> dsimp only <;> (repeat' split) <;> infer_instance

theorem emp_all {I : Type} (s : Finset I) : (bigSep s fun _ => iprop(emp)) = (iprop(emp) : sProp 𝕄) := bigSep_emp_const s

theorem bRd_duties₀ (d : Dev nD) (c : Fin τ.nSC) (j : Fin τ.nSub) : (bRd Pe).duties (bcell d c j) 0 = Finset.range 16 := by
  simp [bRd]
theorem bRd_duties_succ (g : GSem nD τ sig) (r : ℕ) (hr : 1 ≤ r) : (bRd Pe).duties g r = ∅ := by
  have hr0 : r ≠ 0 := by omega
  obtain ⟨⟨d, p⟩, sm⟩ := g
  cases p <;> simp [bRd, hr0]
theorem bRd_mem₀ (d : Dev nD) (c : Fin τ.nSC) (j i : Fin τ.nSub) : i.val ∈ (bRd Pe).duties (bcell d c j) 0 :=
  (bRd_duties₀ Pe d c j).symm ▸ Finset.mem_range.mpr i.isLt
theorem bRd_expect (d : Dev nD) (c : Fin τ.nSC) (j : Fin τ.nSub) : 0 + grid0.bound 1 = (bRd Pe).expect (bcell d c j) 0 := by
  have h : (bRd Pe).expect (bcell d c j) 0 = ∑ _n ∈ Finset.range 16, 1 := Finset.sum_congr (bRd_duties₀ Pe d c j) fun _ _ => rfl
  rw [h]; decide

/-- What a tile owes for the barrier: a unit on every tile's semaphore of its SparseCore. -/
def oxV (d : Dev nD) (c : Fin τ.nSC) : CellTallies nD τ sig (HIx 1) := ∑ j : Fin (grid0.bound 1), tallyAt (bcell d c (j.castLE hsub0)) (some 0) 1

/-- What a tile owes on one semaphore at one index, as a number. -/
theorem oxV_apply (d : Dev nD) (c : Fin τ.nSC) (g : GSem nD τ sig) (ι : HIx 1) :
    oxV d c g ι = ∑ j : Fin (grid0.bound 1), if g = bcell d c (j.castLE hsub0) ∧ ι = some 0 then 1 else 0 := by
  simp only [oxV, Finset.sum_apply, Finsupp.finsetSum_apply, tallyAt_apply]

theorem oxV_none (d : Dev nD) (c : Fin τ.nSC) (g : GSem nD τ sig) : oxV d c g none = 0 := by simp [oxV_apply]

theorem oxV_apply_pos {d : Dev nD} {c : Fin τ.nSC} {g : GSem nD τ sig} {ι : HIx 1} (h : 0 < oxV d c g ι) :
    ∃ j : Fin (grid0.bound 1), g = bcell d c (j.castLE hsub0) ∧ ι = some 0 := by
  by_contra hno
  have hall : ∀ j : Fin (grid0.bound 1), ¬ (g = bcell d c (j.castLE hsub0) ∧ ι = some 0) := not_exists.mp hno
  rw [oxV_apply, Finset.sum_eq_zero fun j _ => if_neg (hall j)] at h
  exact absurd h (lt_irrefl 0)

/-- What the launch deals tile `(c, i)` for the barrier. -/
def bkit (d : Dev nD) (c : Fin τ.nSC) (i : Fin τ.nSub) : sProp 𝕄 :=
  iprop((∃ κ : GSem nD τ sig → ℕ, bigSep Finset.univ fun j : Fin (grid0.bound 1) =>
      cellInv EB (bRd Pe) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-- Before the barrier: tile 0's table is what its duties hand over, the other tiles' hand over nothing. -/
theorem pays_intro (d : Dev nD) (c : Fin τ.nSC) (i : Fin τ.nSub) :
    (if i.val = 0 then iprop(shLoc d c ↦[Finset.univ]{fullShare} Pe d) else iprop(emp))
      ⊢ (bigSep Finset.univ fun j : Fin (grid0.bound 1) => (bRd Pe).payload (bcell d c (j.castLE hsub0)) 0 i.val : sProp 𝕄) := by
  show _ ⊢ bigSep Finset.univ fun j : Fin (grid0.bound 1) => bPay Pe (bcell d c (j.castLE hsub0)) i.val
  unfold bPay; dsimp only
  by_cases h : i.val = 0
  · simp only [h, ↓reduceIte]
    exact Entails.of_eq (pointsTo_piecesOf (ℓ := shLoc d c) Finset.univ (Pe d) sixteen_pos fullShare)
  · simp only [h, ↓reduceIte]
    exact Entails.of_eq (emp_all _).symm

/-- After it: tile `j`'s round has collected its piece of the table. -/
theorem pays_elim (d : Dev nD) (c : Fin τ.nSC) (j : Fin τ.nSub) :
    (bigSep ((bRd Pe).duties (bcell d c j) 0 \ ∅) fun n => (bRd Pe).payload (bcell d c j) 0 n)
      ⊢ (iprop(shLoc d c ↦[Finset.univ]{sq j} Pe d) : sProp 𝕄) := by
  rw [Finset.sdiff_empty, bRd_duties₀]
  refine (bigSep_elim (i := (0 : ℕ)) (Finset.mem_range.mpr (by decide : 0 < 16))).trans ?_
  show bPay Pe (bcell d c j) 0 ⊢ _
  unfold bPay; dsimp only
  rw [if_pos rfl]

/-! ## What the handshakes carry -/

abbrev tLoc (d : Dev nD) : Loc nD τ sig := (SparseCore.T d).loc main_v0
abbrev pLoc (d : Dev nD) : Loc nD τ sig := (SparseCore.T d).loc main_arg1
abbrev oLoc (d : Dev nD) : Loc nD τ sig := (SparseCore.T d).loc main_v1

/-- The output's chunks of the worker at `L`, whatever they hold; and written. -/
def outsA (d : Dev nD) (L : grid0.Coords) : sProp 𝕄 := bigSep Finset.univ fun s => bigSep Finset.univ (outAny (F := F) d L s)
def outsW (d : Dev nD) (L : grid0.Coords) : sProp 𝕄 := bigSep Finset.univ fun s => bigSep Finset.univ (outG d L (Tm d) (Pe d) s)

/-- What a worker is handed, and what it hands back. -/
def goR (d : Dev nD) (L : grid0.Coords) : sProp 𝕄 :=
  iprop((tLoc d ↦[Finset.univ]{tq (L 0) (L 1)} Tm d) ∗ (pLoc d ↦[Finset.univ]{tq (L 0) (L 1)} Pe d) ∗ outsA (F := F) d L
    ∗ if (L 1).val = 0 then iprop(∃ f, shLoc d (cV L) ↦[Finset.univ]{fullShare} f) else iprop(emp))
def tdR (d : Dev nD) (L : grid0.Coords) : sProp 𝕄 :=
  iprop((tLoc d ↦[Finset.univ]{tq (L 0) (L 1)} Tm d) ∗ (pLoc d ↦[Finset.univ]{tq (L 0) (L 1)} Pe d) ∗ outsW Tm Pe d L
    ∗ (shLoc d (cV L) ↦[Finset.univ]{sq (L 1)} Pe d) ∗ semVal (bcell d (cV L) (jV L)) 0)

/-- What a SparseCore is handed, and what it hands back. -/
def stR (d : Dev nD) (c : Fin 2) : sProp 𝕄 :=
  iprop((tLoc d ↦[Finset.univ]{cq c} Tm d) ∗ (pLoc d ↦[Finset.univ]{cq c} Pe d)
    ∗ bigSep Finset.univ fun i : Fin 16 => outsA (F := F) d (coordsV c i))
def dnR (d : Dev nD) (c : Fin 2) : sProp 𝕄 :=
  iprop((tLoc d ↦[Finset.univ]{cq c} Tm d) ∗ (pLoc d ↦[Finset.univ]{cq c} Pe d)
    ∗ (bigSep Finset.univ fun i : Fin 16 => outsW Tm Pe d (coordsV c i))
    ∗ bigSep Finset.univ fun i : Fin 16 => semVal (bcell d (c.castLE hcore0) (i.castLE hsub0)) 0)

instance outsA_storable (d : Dev nD) (L : grid0.Coords) : Storable (upEmb : UEmb _ 𝕄) (outsA (F := F) d L) := by
  unfold outsA outAny; infer_instance
instance outsW_storable (d : Dev nD) (L : grid0.Coords) : Storable (upEmb : UEmb _ 𝕄) (outsW Tm Pe d L) := by
  unfold outsW outG; infer_instance
instance goR_storable (d : Dev nD) (L : grid0.Coords) : Storable (upEmb : UEmb _ 𝕄) (goR Tm Pe d L) := by
  unfold goR; split <;> infer_instance
instance tdR_storable (d : Dev nD) (L : grid0.Coords) : Storable (upEmb : UEmb _ 𝕄) (tdR Tm Pe d L) := by
  unfold tdR; infer_instance
instance stR_storable (d : Dev nD) (c : Fin 2) : Storable (upEmb : UEmb _ 𝕄) (stR Tm Pe d c) := by
  unfold stR
  haveI := fun i : Fin 16 => outsA_storable (F := F) d (coordsV c i)
  infer_instance
instance dnR_storable (d : Dev nD) (c : Fin 2) : Storable (upEmb : UEmb _ 𝕄) (dnR Tm Pe d c) := by
  unfold dnR
  haveI := fun i : Fin 16 => outsW_storable Tm Pe d (coordsV c i)
  infer_instance

set_option backward.proofsInPublic true in
/-- What the one call's handshakes carry, what each tile's proof consumes and what each tile owes of its own. -/
def P : (K (F := F)).Pay (nD := nD) (Val := Elt F) (Name := ℕ) (U := UU) where
  st := fun q d c => match q with | 0 => stR Tm Pe d c
  dn := fun q d c => match q with | 0 => dnR Tm Pe d c
  go := fun q d c i => match q with | 0 => goR Tm Pe d (coordsV c i)
  td := fun q d c i => match q with | 0 => tdR Tm Pe d (coordsV c i)
  x := fun _ thr => match thr with
    | (d, .scVector c i) => bkit Pe d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · obtain ⟨j, rfl, rfl⟩ := oxV_apply_pos h
      rw [(K (F := F)).lev_V_reg d c (j.castLE hsub0) (show (sc_bar0 : Sem sig) ≠ (K (F := F)).go from bar_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P Tm Pe).IsStorable where
  st q d c := match q with | 0 => stR_storable Tm Pe d c
  dn q d c := match q with | 0 => dnR_storable Tm Pe d c
  go q d c i := match q with | 0 => goR_storable Tm Pe d (coordsV c i)
  td q d c i := match q with | 0 => tdR_storable Tm Pe d (coordsV c i)

end Emb

end
-- ==== Proof.Tile.lean ====
/-
  A worker's task, from what it is handed to what it hands back.
-/
module

public import proofs.«01_k».proof.Proof.Pay

@[expose] public section

noncomputable section

namespace Emb

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.ShloMosaic.Rounds
open Idealize.ShloMosaic.Tactic
open Idealize.ShloMosaic.Transfers (Batch pending)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid0.Coords) (Tm : S20x16384.Idx → Elt F .i32) (Pe : S367x128.Idx → Elt F .f32)
variable (q : PosShare TreeShare) (O : CellTallies nD τ sig (HIx 1)) (W : Waits sig (HIx 1))

/-! ## The two copies before the barrier -/

theorem copy_table (h1) (h2) (h3) (f : Buf (Elt F) (SV.view.loc (wk d L))) {Q : PUnit → sProp 𝕄} :
    iprop(Transfers.MayWaits (wk d L) (default : HIx 1) O ∗ (PV.view.loc (wk d L) ↦[Finset.univ]{q} Pe)
        ∗ (SV.view.loc (wk d L) ↦[Finset.univ]{fullShare} f) ∗ semVal (wk d L, SemLoc.dma (SemArray.sem cc0_scoped0)) 0 ∗ owes (wk d L) O W)
      ⊢ iprop((iprop((PV.view.loc (wk d L) ↦[Finset.univ]{q} Pe) ∗ (SV.view.loc (wk d L) ↦[Finset.univ]{fullShare} Pe)
          ∗ semVal (wk d L, SemLoc.dma (SemArray.sem cc0_scoped0)) 0 ∗ OW d L O W) -∗ Q ⟨⟩)
      -∗ wp frame (wpE (defs₀ (F := F)) 𝒱₀ (wk d L) none) Set.univ
        (do Prog.lift (.enqueueDma PV (.here SV) (.dma (SemArray.sem cc0_scoped0)) h1 h2 h3)
            Prog.lift (.waitDma2 (SemArray.sem cc0_scoped0) PV SV h1 h2)) Q) := by
  iintro ⟨#Hmw, HP, HS, Hv, HO⟩ Hk
  sl_exec
  have hw : View.write (Elt F) SV.view f (copy_table.sl.dma0 Pe) Finset.univ = Pe := funext fun x =>
    (View.write_emb_of_mem (v := SV.view) f _ (Finset.mem_univ x)).trans rfl
  rw [hw]
  iapply le_wp_ret
  iapply Hk
  isplitl [HP]; · iexact HP
  isplitl [HS]; · iexact HS
  isplitl [Hv]; · iexact Hv
  unfold OW
  iexists _
  isplitr
  swap; · iexact HO
  ipureintro; intro p hp
  rcases Finset.mem_insert.mp hp with rfl | hp
  · exact .inr (.inl rfl)
  · exact .inl hp

theorem off1_at : k0_off1 L = ![0, base L] := by
  rw [k0_off1_eq]; rfl

theorem copy_index (h1) (h2) (h3) (f : Buf (Elt F) (IV.view.loc (wk d L))) {Q : PUnit → sProp 𝕄} :
    iprop(Transfers.MayWaits (wk d L) (default : HIx 1) O ∗ (TV.view.loc (wk d L) ↦[Finset.univ]{q} Tm)
        ∗ (IV.view.loc (wk d L) ↦[Finset.univ]{fullShare} f) ∗ semVal (wk d L, SemLoc.dma (SemArray.sem cc0_scoped1)) 0 ∗ owes (wk d L) O W)
      ⊢ iprop((iprop((TV.view.loc (wk d L) ↦[Finset.univ]{q} Tm) ∗ (IV.view.loc (wk d L) ↦[Finset.univ]{fullShare} IX Tm L)
          ∗ semVal (wk d L, SemLoc.dma (SemArray.sem cc0_scoped1)) 0 ∗ OW d L O W) -∗ Q ⟨⟩)
      -∗ wp frame (wpE (defs₀ (F := F)) 𝒱₀ (wk d L) none) Set.univ
        (do Prog.lift (.enqueueDma (timeW (k0_off1 L) (k0_off1_inb L)) (.here IV) (.dma (SemArray.sem cc0_scoped1)) h1 h2 h3)
            Prog.lift (.waitDma2 (SemArray.sem cc0_scoped1) (timeW (k0_off1 L) (k0_off1_inb L)) IV h1 h2)) Q) := by
  iintro ⟨#Hmw, HP, HS, Hv, HO⟩ Hk
  sl_exec
  have hw : View.write (Elt F) IV.view f (copy_index.sl.dma0 L Tm) Finset.univ = IX Tm L := funext fun x => by
    refine (View.write_emb_of_mem (v := IV.view) f _ (Finset.mem_univ x)).trans ?_
    show Tm ((timeW (k0_off1 L) (k0_off1_inb L)).view.emb x) = IX Tm L x
    obtain ⟨e0, e1⟩ := timeW_emb (k0_off1 L) (k0_off1_inb L) x
    unfold IX
    refine congrArg Tm ((eq_ix2 _).trans (congrArg₂ ix2 (Fin.ext ?_) (Fin.ext ?_)))
    · rw [e0, off1_at]; exact Nat.zero_add _
    · rw [e1, off1_at]; rfl
  rw [hw]
  iapply le_wp_ret
  iapply Hk
  isplitl [HP]; · iexact HP
  isplitl [HS]; · iexact HS
  isplitl [Hv]; · iexact Hv
  unfold OW
  iexists _
  isplitr
  swap; · iexact HO
  ipureintro; intro p hp
  rcases Finset.mem_insert.mp hp with rfl | hp
  · exact .inr (.inl rfl)
  · exact .inl hp

/-! ## The row scratch in its ten slots -/

abbrev rowSet (x : Fin 2 × Fin 5) : Finset S2x5x64x128.Idx := (rowS x.1.val x.2).view.set

theorem rowS_disjoint : ∀ x ∈ (Finset.univ : Finset (Fin 2 × Fin 5)), ∀ y ∈ (Finset.univ : Finset (Fin 2 × Fin 5)), x ≠ y →
    Disjoint (rowSet x) (rowSet y) := by
  rintro ⟨h, b⟩ - ⟨h', b'⟩ - hne
  rw [Finset.disjoint_left]
  intro i hi hi'
  have a0 := (mem_rowW _ _ i).mp hi 0
  have a1 := (mem_rowW _ _ i).mp hi 1
  have c0 := (mem_rowW _ _ i).mp hi' 0
  have c1 := (mem_rowW _ _ i).mp hi' 1
  have e0 : (i 0).val < h.val % 2 + 1 ∧ h.val % 2 ≤ (i 0).val := ⟨a0.2, a0.1⟩
  have e1 : (i 1).val < b.val + 1 ∧ b.val ≤ (i 1).val := ⟨a1.2, a1.1⟩
  have e2 : (i 0).val < h'.val % 2 + 1 ∧ h'.val % 2 ≤ (i 0).val := ⟨c0.2, c0.1⟩
  have e3 : (i 1).val < b'.val + 1 ∧ b'.val ≤ (i 1).val := ⟨c1.2, c1.1⟩
  have := h.isLt; have := h'.isLt
  refine hne (Prod.ext (Fin.ext ?_) (Fin.ext ?_))
  · show h.val = h'.val; omega
  · show b.val = b'.val; omega

theorem rowS_cover : (Finset.univ : Finset (Fin 2 × Fin 5)).biUnion rowSet = Finset.univ := by
  ext i
  simp only [Finset.mem_univ, iff_true, Finset.mem_biUnion, true_and]
  refine ⟨(⟨(i 0).val, (i 0).isLt⟩, ⟨(i 1).val, (i 1).isLt⟩), (mem_rowW _ _ i).mpr fun a => ?_⟩
  have h0 : (i 0).val < 2 := (i 0).isLt
  have h2 : (i 2).val < 64 := (i 2).isLt
  have h3 : (i 3).val < 128 := (i 3).isLt
  match a with
  | 0 => show (i 0).val % 2 ≤ (i 0).val ∧ (i 0).val < (i 0).val % 2 + 1; omega
  | 1 => show (i 1).val ≤ (i 1).val ∧ (i 1).val < (i 1).val + 1; omega
  | 2 => show 0 ≤ (i 2).val ∧ (i 2).val < 0 + 64; omega
  | 3 => show 0 ≤ (i 3).val ∧ (i 3).val < 0 + 128; omega

theorem slots_prod : bigSep Finset.univ (fun x : Fin 2 × Fin 5 => slot (F := F) d L x.1.val x.2)
    = iprop(bigSep Finset.univ (slot (F := F) d L 0) ∗ bigSep Finset.univ (slot (F := F) d L 1)) := by
  rw [bigSep_univ_prod (fun x : Fin 2 × Fin 5 => slot (F := F) d L x.1.val x.2), bigSep_fin_two]
  rfl

theorem slots_split (f : Buf (Elt F) (RV.view.loc (wk d L))) : (RV.view.loc (wk d L) ↦[Finset.univ]{fullShare} f : sProp 𝕄)
    ⊢ iprop(bigSep Finset.univ (slot (F := F) d L 0) ∗ bigSep Finset.univ (slot (F := F) d L 1)) := by
  rw [← slots_prod, ← rowS_cover, pointsTo_biUnion Finset.univ (ℓ := RV.view.loc (wk d L)) rowSet rowS_disjoint]
  exact bigSep_mono fun x _ => by
    exact BI.BIClass.exists_intro (Φ := fun f : Buf (Elt F) (RV.view.loc (wk d L)) => iprop(RV.view.loc (wk d L) ↦[rowSet x]{fullShare} f)) f

theorem slots_join : iprop(bigSep Finset.univ (slot (F := F) d L 0) ∗ bigSep Finset.univ (slot (F := F) d L 1))
    ⊢ (iprop(∃ f, RV.view.loc (wk d L) ↦[Finset.univ]{fullShare} f) : sProp 𝕄) := by
  rw [← slots_prod]
  unfold slot
  refine (bigSep_exists_pi Finset.univ (fun (x : Fin 2 × Fin 5) (f : Buf (Elt F) (RV.view.loc (wk d L))) =>
    iprop(RV.view.loc (wk d L) ↦[(rowS x.1.val x.2).view.set]{fullShare} f))).trans ?_
  iintro ⟨%fs, H⟩
  ihave H' := (pointsTo_biUnion_join Finset.univ rowSet fs (fs (0, 0)) rowS_disjoint) $$ H
  icases H' with ⟨%g, -, Hg⟩
  rw [rowS_cover]
  iexists g; iexact Hg

/-! ## A worker's own semaphores and buffers -/

abbrev gCell (d : Dev nD) (L : grid0.Coords) : GSem nD τ sig := (wk d L, .dma gsem)
abbrev sCell (d : Dev nD) (L : grid0.Coords) : GSem nD τ sig := (wk d L, .dma ssem)
abbrev tCell (d : Dev nD) (L : grid0.Coords) : GSem nD τ sig := (wk d L, .dma (SemArray.sem cc0_scoped0))
abbrev iCell (d : Dev nD) (L : grid0.Coords) : GSem nD τ sig := (wk d L, .dma (SemArray.sem cc0_scoped1))

theorem cell_mem (d : Dev nD) (L : grid0.Coords) (s : DmaSem sig) (h : (SemLoc.dma s : SemLoc sig).isScoped .scVector = true) :
    ((wk d L, .dma s) : GSem nD τ sig) ∈ ownCells (wk d L) := mem_ownCells.mpr ⟨rfl, h⟩

theorem cell_ne (d : Dev nD) (L : grid0.Coords) {s s' : DmaSem sig} (h : s ≠ s') :
    ((wk d L, .dma s) : GSem nD τ sig) ≠ (wk d L, .dma s') := fun e => h (SemLoc.dma.inj (Prod.mk.inj e).2)

theorem ownSems0_V : (ownSems0 (wk d L) : sProp 𝕄)
      = iprop(semVal (gCell d L) 0 ∗ semVal (sCell d L) 0 ∗ semVal (tCell d L) 0 ∗ semVal (iCell d L) 0
          ∗ bigSep (((((ownCells (wk d L)).erase (gCell d L)).erase (sCell d L)).erase (tCell d L)).erase (iCell d L)) fun g => semVal g 0) := by
  unfold SparseCore.Cfg.ownSems0
  rw [SparseCore.bigSep_erase' (cell_mem d L gsem (by decide)),
    SparseCore.bigSep_erase' (Finset.mem_erase.mpr ⟨cell_ne d L (by decide), cell_mem d L ssem (by decide)⟩),
    SparseCore.bigSep_erase' (Finset.mem_erase.mpr ⟨cell_ne d L (by decide), Finset.mem_erase.mpr ⟨cell_ne d L (by decide),
      cell_mem d L (SemArray.sem cc0_scoped0) (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L (SemArray.sem cc0_scoped1) (by decide)⟩⟩⟩)]

abbrev iRef (L : grid0.Coords) : DevRef τ sig := (Proc.scVector (cV L) (jV L)).devRef cc0_scratch0
abbrev rRef (L : grid0.Coords) : DevRef τ sig := (Proc.scVector (cV L) (jV L)).devRef cc0_scratch1

theorem ownBufs_V : (ownBufs (wk d L) : sProp 𝕄)
      = iprop((∃ f, IV.view.loc (wk d L) ↦[Finset.univ]{fullShare} f) ∗ (∃ f, RV.view.loc (wk d L) ↦[Finset.univ]{fullShare} f)
          ∗ bigSep (((ownRefs (τ := τ) (.scVector (cV L) (jV L))).erase (iRef L)).erase (rRef L))
              fun b => iprop(∃ f, ((d, b) : Loc nD τ sig) ↦{fullShare} f)) := by
  unfold SparseCore.Cfg.ownBufs
  have hi : iRef L ∈ ownRefs (τ := τ) (sig := sig) (.scVector (cV L) (jV L)) := SparseCore.Cfg.mem_ownRefs_of_owner (p := Proc.scVector (cV L) (jV L)) (b := iRef L) rfl
  have hr : rRef L ∈ ownRefs (τ := τ) (sig := sig) (.scVector (cV L) (jV L)) := SparseCore.Cfg.mem_ownRefs_of_owner (p := Proc.scVector (cV L) (jV L)) (b := rRef L) rfl
  have hne : rRef L ≠ iRef L := fun e => absurd (congrArg (fun b : DevRef τ sig => b.idx.val) e) (show ¬ (1 : ℕ) = 0 by decide)
  refine (SparseCore.bigSep_erase' hi).trans ?_
  rw [SparseCore.bigSep_erase' (Finset.mem_erase.mpr ⟨hne, hr⟩)]

/-! ## The task -/

theorem ow_trans {W' : Waits sig (HIx 1)} (h : ∀ p ∈ W', p ∈ W ∨ p.2 = none ∨ p.2 = some (0 : Fin 1)) :
    (OW d L O W' : sProp 𝕄) ⊢ OW d L O W := by
  unfold OW
  iintro ⟨%W'', %h', HO⟩
  iexists W''
  isplitr
  swap; · iexact HO
  ipureintro; intro p hp
  rcases h' p hp with hp | hp
  · exact h p hp
  · exact .inr hp

theorem tile0_iff : ∀ j : Fin 16, Scalar.cmpi .ne (Scalar.extui (Scalar.cmpi .eq (BitVec.ofNat 32 j.val) 0#32)) 0#32 = 1#1 ↔ j.val = 0 := by
  decide +kernel

theorem outsG_all : outsG d L Tm Pe 32 = bigSep Finset.univ fun s => bigSep Finset.univ (outG d L Tm Pe s) := by
  unfold outsG
  rw [show (Finset.univ.filter fun s : Fin 32 => s.val < 32) = Finset.univ from by ext s; simp [s.isLt]]

/-- The steps' work: everything past the barrier. -/
theorem work {Tm} (hT : ∀ i, BitVec.toNat (Tm i) < 367) (v : BitVec 32) {Q : PUnit → sProp 𝕄} :
    iprop(Transfers.MayWaits (wk d L) (default : HIx 1) O ∗ OW d L O W ∗ GIdle d L Tm Pe q
        ∗ bigSep Finset.univ (slot (F := F) d L 0) ∗ bigSep Finset.univ (slot (F := F) d L 1) ∗ semVal (wk d L, SemLoc.dma ssem) 0
        ∗ bigSep Finset.univ (fun s => bigSep Finset.univ (outAny (F := F) d L s)))
      ⊢ iprop((iprop(OW d L O W ∗ GIdle d L Tm Pe q
          ∗ bigSep Finset.univ (slot (F := F) d L 0) ∗ bigSep Finset.univ (slot (F := F) d L 1) ∗ semVal (wk d L, SemLoc.dma ssem) 0
          ∗ bigSep Finset.univ (fun s => bigSep Finset.univ (outG d L Tm Pe s))) -∗ Q ⟨⟩)
      -∗ wp frame (wpE (defs₀ (F := F)) 𝒱₀ (wk d L) none) Set.univ
        (do SparseCore.enqueueIndirectGather rfl tabW (rowW ![0, 0, 0, 0] inb_S2x5x64x128_S1x1x64x128_0_0_0_0) gathers_S367x128_S64x128
              (idxW (k0_off2 0#32 0#32) (k0_off2_inb 0)) rfl gsem (View.wordExact_bits rfl) rfl (Or.inr rfl)
            let v2 ← Pure.pure v
            k0_part9 (F := F) L TV (Memref.isWhole_whole _) PV (Memref.isWhole_whole _) OV (Memref.isWhole_whole _) IV (Memref.isWhole_whole _)
              RV (Memref.isWhole_whole _) SV (Memref.isWhole_whole _) cc0_scratch3 cc0_scratch4 cc0_scoped0 cc0_scoped1
            k0_part10 (F := F) L TV (Memref.isWhole_whole _) PV (Memref.isWhole_whole _) OV (Memref.isWhole_whole _) IV (Memref.isWhole_whole _)
              RV (Memref.isWhole_whole _) SV (Memref.isWhole_whole _) cc0_scratch3 cc0_scratch4 cc0_scoped0 cc0_scoped1 v2
            let _ ← k0_part11 (F := F) L TV (Memref.isWhole_whole _) PV (Memref.isWhole_whole _) OV (Memref.isWhole_whole _) IV (Memref.isWhole_whole _)
              RV (Memref.isWhole_whole _) SV (Memref.isWhole_whole _) cc0_scratch3 cc0_scratch4 cc0_scoped0 cc0_scoped1 v2
            Prog.lift (.waitDma2 ssem (rowW k0_off27 k0_off27_inb) (outW (k0_off23 L 159#32 159#32) (k0_off23_inb L 4))
              ((View.wordExact_bits rfl).reshape _ _) ((View.wordExact_bits rfl).reshape _ _))) Q) := by
  simp only [wp_bind, k0_part9_eq_skeleton, k0_part9_skel, k0_part10_eq_skeleton, k0_part10_skel, k0_part11_eq_skeleton, k0_part11_skel]
  iintro ⟨#Hmw, HO, HI, Hs0, Hs1, Hv, Ho⟩ Hk
  imod (gStart d L Tm Pe q 0) $$ [HI Hs0] with HG
  · isplitl [HI]; · iexact HI
    iexact Hs0
  iapply (gFire d L Pe q hT 0 0 _ _ rfl (k0_off2_chk 0) _ _) $$ [HG]
  · iexact HG
  iintro HG
  iapply le_wp_ret
  iapply (gFire d L Pe q hT 0 1 _ _ rfl (k0_off2_chk 1) _ _) $$ [HG]
  · iexact HG
  iintro HG
  iapply (gFire d L Pe q hT 0 2 _ _ rfl (k0_off2_chk 2) _ _) $$ [HG]
  · iexact HG
  iintro HG
  iapply (gFire d L Pe q hT 0 3 _ _ rfl (k0_off2_chk 3) _ _) $$ [HG]
  · iexact HG
  iintro HG
  iapply le_wp_ret
  iapply (gFire d L Pe q hT 0 4 _ _ rfl (k0_off2_chk 4) _ _) $$ [HG]
  · iexact HG
  iintro HG
  ihave Hi := (show iprop(Transfers.MayWaits (wk d L) (default : HIx 1) O ∗ OW d L O W ∗ GFire d L Tm Pe q 0 5
      ∗ iprop(semVal (wk d L, SemLoc.dma ssem) 0 ∗ bigSep Finset.univ (slot (F := F) d L 1))
      ∗ bigSep Finset.univ (fun s => bigSep Finset.univ (outAny (F := F) d L s))) ⊢ Inv d L Tm Pe q O W 0 from by
    have hA : outsAny (F := F) d L 0 = bigSep Finset.univ (fun s => bigSep Finset.univ (outAny (F := F) d L s)) := by
      unfold outsAny; rw [Transfers.pending_zero]
    unfold Inv GP SP
    rw [dif_pos (by decide), dif_neg (by decide), hA, show 0 - 1 = 0 from rfl, outsG_zero]
    iintro ⟨Hm, HO, HG, HS, Ha⟩
    isplitl [Hm]; · iexact Hm
    isplitl [HO]; · iexact HO
    isplitl [HG]; · iapply (gFired d L Tm Pe q 0) $$ HG
    isplitl [HS]; · iexact HS
    isplitl [Ha]; · iexact Ha
    iempintro) $$ [HO HG Hs1 Hv Ho]
  · isplitl []; · iexact Hmw
    isplitl [HO]; · iexact HO
    isplitl [HG]; · iexact HG
    isplitr [Ho]
    · isplitl [Hv] <;> iassumption
    iexact Ho
  iapply (Scf.wp_for _ _ _ _ _ _ k0_t1_ok _ _ (fun k _ => Inv d L Tm Pe q O W k) (fun t acc => step d L Pe q O W hT v t acc)) $$ [Hi Hk]
  isplitl [Hi]; · iexact Hi
  iintro %acc Hi
  ihave Hi' := (show Inv d L Tm Pe q O W k0_t1_loop.trips ⊢ iprop(OW d L O W ∗ iprop(GIdle d L Tm Pe q ∗ bigSep Finset.univ (slot (F := F) d L 0))
      ∗ SDrain d L Tm Pe 31 0 ∗ outsG d L Tm Pe 31) from by
    rw [trips_eq]
    unfold Inv GP SP
    rw [dif_neg (by decide), dif_pos (by decide), slot_parity d L (show 32 % 2 = 0 % 2 from rfl)]
    iintro ⟨-, HO, HG, HS, -, Hg⟩
    isplitl [HO]; · iexact HO
    isplitl [HG]; · iexact HG
    isplitl [HS]; · iexact HS
    iexact Hg) $$ Hi
  icases Hi' with ⟨HO, ⟨HI, Hs0⟩, HS, Hg⟩
  iapply (sWait d L Tm Pe 31 0 (by decide) _ _ _ _ O W) $$ [HS HO]
  · isplitl []; · iexact Hmw
    isplitl [HS] <;> iassumption
  iintro ⟨HS, HO⟩
  iapply le_wp_ret
  iapply (sWait d L Tm Pe 31 1 (by decide) _ _ _ _ O W) $$ [HS HO]
  · isplitl []; · iexact Hmw
    isplitl [HS] <;> iassumption
  iintro ⟨HS, HO⟩
  iapply (sWait d L Tm Pe 31 2 (by decide) _ _ _ _ O W) $$ [HS HO]
  · isplitl []; · iexact Hmw
    isplitl [HS] <;> iassumption
  iintro ⟨HS, HO⟩
  iapply (sWait d L Tm Pe 31 3 (by decide) _ _ _ _ O W) $$ [HS HO]
  · isplitl []; · iexact Hmw
    isplitl [HS] <;> iassumption
  iintro ⟨HS, HO⟩
  iapply le_wp_ret
  iapply wp_fupd
  iapply (sWait d L Tm Pe 31 4 (by decide) _ _ _ _ O W) $$ [HS HO]
  · isplitl []; · iexact Hmw
    isplitl [HS] <;> iassumption
  iintro ⟨HS, HO⟩
  imod (sEnd d L Tm Pe 31) $$ HS with ⟨Hv, Hs1, Hg'⟩
  imodintro
  iapply Hk
  isplitl [HO]; · iexact HO
  isplitl [HI]; · iexact HI
  isplitl [Hs0]; · iexact Hs0
  isplitl [Hs1]
  · rw [slot_parity d L (show 1 % 2 = (31 : Fin 32).val % 2 from rfl)]
    iapply (slots_of_slotG d L Tm Pe 31) $$ Hs1
  isplitl [Hv]; · iexact Hv
  rw [← outsG_all, show outsG d L Tm Pe 32 = outsG d L Tm Pe ((31 : Fin 32).val + 1) from rfl, outsG_step]
  isplitl [Hg']; · iexact Hg'
  iexact Hg

theorem ow_intro_in {W' : Waits sig (HIx 1)} (h : ∀ p ∈ W', p ∈ W ∨ p.2 = none ∨ p.2 = some (0 : Fin 1)) :
    (owes (wk d L) O W' : sProp 𝕄) ⊢ OW d L O W := by
  unfold OW
  iintro HO
  iexists W'
  isplitr
  · ipureintro; exact h
  iexact HO

/-- From the index copy on: its share of the indices in, the barrier, the work, and everything given back. -/
theorem rest (Tm : Dev nD → S20x16384.Idx → Elt F .i32) (Pe : Dev nD → S367x128.Idx → Elt F .f32) (hT : ∀ d i, BitVec.toNat (Tm d i) < 367)
    (hO : ∀ g, O g none = 0) (hOlev : ∀ g ι, 0 < O g ι → 8 * (0 : Fin 1).val + 6 ≤ (K (F := F)).lev g ι)
    (h1) (h2) (h3) (v : BitVec 32) {Q : PUnit → sProp 𝕄} :
    iprop(levAts (K (F := F)).L (K (F := F)).lev ∗ bkit Pe d (cV L) (jV L)
        ∗ (TV.view.loc (wk d L) ↦[Finset.univ]{q} Tm d) ∗ outsA (F := F) d L
        ∗ (if (L 1).val = 0 then iprop(SV.view.loc (wk d L) ↦[Finset.univ]{fullShare} Pe d) else iprop(emp))
        ∗ (∃ f, IV.view.loc (wk d L) ↦[Finset.univ]{fullShare} f) ∗ (∃ f, RV.view.loc (wk d L) ↦[Finset.univ]{fullShare} f)
        ∗ semVal (gCell d L) 0 ∗ semVal (sCell d L) 0 ∗ semVal (iCell d L) 0 ∗ OW d L (O + oxV d (cV L)) W)
      ⊢ iprop((iprop((TV.view.loc (wk d L) ↦[Finset.univ]{q} Tm d) ∗ outsW Tm Pe d L
          ∗ (SV.view.loc (wk d L) ↦[Finset.univ]{sq (L 1)} Pe d) ∗ semVal (bcell d (cV L) (jV L)) 0
          ∗ (∃ f, IV.view.loc (wk d L) ↦[Finset.univ]{fullShare} f) ∗ (∃ f, RV.view.loc (wk d L) ↦[Finset.univ]{fullShare} f)
          ∗ semVal (gCell d L) 0 ∗ semVal (sCell d L) 0 ∗ semVal (iCell d L) 0 ∗ OW d L O W) -∗ Q ⟨⟩)
      -∗ wp frame (wpE (defs₀ (F := F)) 𝒱₀ (wk d L) none) Set.univ
        (do Prog.lift (.enqueueDma (timeW (k0_off1 L) (k0_off1_inb L)) (.here IV) (.dma (SemArray.sem cc0_scoped1)) h1 h2 h3)
            Prog.lift (.waitDma2 (SemArray.sem cc0_scoped1) (timeW (k0_off1 L) (k0_off1_inb L)) IV h1 h2)
            SparseCore.subcoreBarrier sc_bar0 (grid0.bound 1) hsub0
            SparseCore.enqueueIndirectGather rfl tabW (rowW ![0, 0, 0, 0] inb_S2x5x64x128_S1x1x64x128_0_0_0_0) gathers_S367x128_S64x128
              (idxW (k0_off2 0#32 0#32) (k0_off2_inb 0)) rfl gsem (View.wordExact_bits rfl) rfl (Or.inr rfl)
            let v2 ← Pure.pure v
            k0_part9 (F := F) L TV (Memref.isWhole_whole _) PV (Memref.isWhole_whole _) OV (Memref.isWhole_whole _) IV (Memref.isWhole_whole _)
              RV (Memref.isWhole_whole _) SV (Memref.isWhole_whole _) cc0_scratch3 cc0_scratch4 cc0_scoped0 cc0_scoped1
            k0_part10 (F := F) L TV (Memref.isWhole_whole _) PV (Memref.isWhole_whole _) OV (Memref.isWhole_whole _) IV (Memref.isWhole_whole _)
              RV (Memref.isWhole_whole _) SV (Memref.isWhole_whole _) cc0_scratch3 cc0_scratch4 cc0_scoped0 cc0_scoped1 v2
            let _ ← k0_part11 (F := F) L TV (Memref.isWhole_whole _) PV (Memref.isWhole_whole _) OV (Memref.isWhole_whole _) IV (Memref.isWhole_whole _)
              RV (Memref.isWhole_whole _) SV (Memref.isWhole_whole _) cc0_scratch3 cc0_scratch4 cc0_scoped0 cc0_scoped1 v2
            Prog.lift (.waitDma2 ssem (rowW k0_off27 k0_off27_inb) (outW (k0_off23 L 159#32 159#32) (k0_off23_inb L 4))
              ((View.wordExact_bits rfl).reshape _ _) ((View.wordExact_bits rfl).reshape _ _))
            Pure.pure ⟨⟩) Q) := by
  have hci := fun O W f Q' => copy_index (F := F) d L (Tm d) q O W h1 h2 h3 f (Q := Q')
  have hwk := fun Q' => work (F := F) d L (Pe d) (sq (L 1)) O W (hT d) v (Q := Q')
  simp only [wp_bind] at hci hwk ⊢
  unfold bkit OW
  iintro ⟨#Hlv, ⟨⟨%κ, #Hinv⟩, Htoks, #Hrch, Hat, Hcred⟩, Ht, Ho, Hsh, ⟨%fi, Hi⟩, ⟨%fr, Hr⟩, Hgs, Hss, His, %W₁, %hW₁, HO⟩ Hk
  have hO' : ∀ g, (O + oxV d (cV L)) g none = 0 := fun g => by rw [Pi.add_apply, Finsupp.add_apply, hO g, oxV_none]
  ihave Hmw1 := (show levAts (K (F := F)).L (K (F := F)).lev ⊢ Transfers.MayWaits (wk d L) (default : HIx 1) (O + oxV d (cV L)) from
    (K (F := F)).mayWaits_none (thr := V d (cV L) (jV L)) hO') $$ Hlv
  ihave Hmw2 := (show levAts (K (F := F)).L (K (F := F)).lev ⊢ Transfers.MayWaits (wk d L) (default : HIx 1) O from
    (K (F := F)).mayWaits_none (thr := V d (cV L) (jV L)) hO) $$ Hlv
  iapply (hci (O + oxV d (cV L)) W₁ fi _) $$ [Hmw1 Ht Hi His HO]
  · isplitl [Hmw1]; · iexact Hmw1
    isplitl [Ht]; · iexact Ht
    isplitl [Hi]; · iexact Hi
    isplitl [His]; · iexact His
    iexact HO
  unfold OW
  iintro ⟨Ht, Hi, His, %W₂, %hW₂, HO⟩
  -- the barrier
  ihave Hpays := (pays_intro Pe d (cV L) (jV L)) $$ [Hsh]
  · iexact Hsh
  iapply (SparseCore.wp_subcoreBarrier 𝒱₀ none EB (bRd Pe) d (sc := cV L) (i := jV L) sc_bar0 (grid0.bound 1) hsub0 (L 1) rfl κ (fun _ => 0) (jV L).val
      (fun j => bRd_mem₀ Pe d _ _ _) (fun _ => rfl) (bRd_expect Pe d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from bar_ne_go)]; exact le_rfl)
      (fun g ι hg => lt_of_lt_of_le (by decide) (hOlev g ι hg)))
    iexact Hlv
  iintro ⟨HO, Hat, -, Hgot⟩
  -- the round is over: the counter is the worker's again, at zero, and so is its share of the table
  imod (Rounds.cell_close EB (bRd Pe) (g := bcell d (cV L) (jV L)) (Set.mem_univ (κ _)) (fun h => h) (bRd_duties_succ Pe _)) $$ [Hat] with Hbar
  · isplitr
    · iapply (SparseCore.ent (bigSep_elim (Φ := fun j : Fin (grid0.bound 1) =>
        (cellInv EB (bRd Pe) (κ (bcell d (cV L) (j.castLE hsub0))) (bcell d (cV L) (j.castLE hsub0)) : sProp 𝕄)) (Finset.mem_univ (L 1)))); iexact Hinv
    · iexact Hat
  ihave Hs := (pays_elim Pe d (cV L) (jV L)) $$ Hgot
  ihave Hsl := (slots_split d L fr) $$ Hr
  icases Hsl with ⟨Hs0, Hs1⟩
  ihave HOW := (ow_intro_in d L O W (fun p hp => by
    rcases Finset.mem_insert.mp hp with rfl | hp
    · exact .inr (.inr rfl)
    · rcases hW₂ p hp with hp | hp
      · exact hW₁ p hp
      · exact .inr hp)) $$ HO
  iapply le_wp_ret
  iapply (hwk _) $$ [Hmw2 HOW Hs Hi Hgs Hs0 Hs1 Hss Ho]
  · isplitl [Hmw2]; · iexact Hmw2
    isplitl [HOW]; · iexact HOW
    isplitl [Hs Hi Hgs]
    · unfold GIdle
      isplitl [Hs]; · iexact Hs
      isplitl [Hi]; · iexact Hi
      iexact Hgs
    isplitl [Hs0]; · iexact Hs0
    isplitl [Hs1]; · iexact Hs1
    isplitl [Hss]; · iexact Hss
    unfold outsA
    iexact Ho
  unfold GIdle
  iintro ⟨HO, ⟨Hs, Hi, Hgs⟩, Hs0, Hs1, Hss, Ho⟩
  iapply le_wp_ret
  iapply Hk
  ihave Hr := (slots_join d L) $$ [Hs0 Hs1]
  · isplitl [Hs0] <;> iassumption
  isplitl [Ht]; · iexact Ht
  isplitl [Ho]; · unfold outsW; iexact Ho
  isplitl [Hs]; · iexact Hs
  isplitl [Hbar]; · iexact Hbar
  isplitl [Hi]; · iexists _; iexact Hi
  isplitl [Hr]; · iexact Hr
  isplitl [Hgs]; · iexact Hgs
  isplitl [Hss]; · iexact Hss
  isplitl [His]; · iexact His
  unfold OW
  iexact HO

set_option maxHeartbeats 4000000 in
/-- A worker's whole task. -/
theorem tile_body (Tm : Dev nD → S20x16384.Idx → Elt F .i32) (Pe : Dev nD → S367x128.Idx → Elt F .f32) (hT : ∀ d i, BitVec.toNat (Tm d i) < 367)
    (hF : (K (F := F)).Facts) (hO : ∀ g, O g none = 0) (hOlev : ∀ g ι, 0 < O g ι → 8 * (0 : Fin 1).val + 6 ≤ (K (F := F)).lev g ι) :
    iprop(levAts (K (F := F)).L (K (F := F)).lev ∗ bkit Pe d (cV L) (jV L) ∗ goR Tm Pe d L
        ∗ scopedBufs (wk d L) ∗ scopedSems0 (wk d L) ∗ owes (wk d L) (O + oxV d (cV L)) W)
      ⊢ wp frame (wpE (defs₀ (F := F)) 𝒱₀ (wk d L) none) Set.univ
          (cc0_k (F := F) L TV (Memref.isWhole_whole _) PV (Memref.isWhole_whole _) OV (Memref.isWhole_whole _) IV (Memref.isWhole_whole _)
              RV (Memref.isWhole_whole _) SV (Memref.isWhole_whole _) cc0_scratch3 cc0_scratch4 cc0_scoped0 cc0_scoped1)
          fun _ => iprop(tdR Tm Pe d L ∗ scopedBufs (wk d L) ∗ scopedSems0 (wk d L)
            ∗ ∃ W', ⌜∀ p ∈ W', p ∈ W ∨ p.2 = none ∨ p.2 = some (0 : Fin 1)⌝ ∗ owes (wk d L) O W') := by
  simp only [cc0_k_eq_skeleton, cc0_k_skel, k0_part8_eq_skeleton, k0_part8_skel, wp_bind]
  rw [(K (F := F)).scopedBufs_V hF d (cV L) (jV L), SparseCore.Cfg.scopedSems0_V (Val := Elt F) d (cV L) (jV L), ownSems0_V, ownBufs_V]
  unfold bkit goR
  iintro ⟨#Hlv, ⟨⟨%κ, #Hinv⟩, Htoks, #Hrch, Hat, Hcred⟩, ⟨Ht, Hp, Ho, Hsh⟩, ⟨⟨%fi, Hi⟩, Hr, Hbufs⟩, ⟨Hgs, Hss, Hts, His, Hsems⟩, HO⟩
  have hct := fun f Q' => copy_table (F := F) d L (Pe d) (tq (L 0) (L 1)) (O + oxV d (cV L)) W
    (Memref.isWhole_whole _).wordExact (Memref.isWhole_whole _).wordExact ⟨Or.inl rfl, trivial⟩ f (Q := Q')
  have hre := fun Q' => rest (F := F) d L (tq (L 0) (L 1)) O W Tm Pe hT hO hOlev (View.wordExact_bits rfl) (Memref.isWhole_whole _).wordExact
    ⟨Or.inl rfl, trivial⟩ (Scalar.muli (Scalar.addi (Scalar.muli (BitVec.ofNat 32 (L 1).val) 2#32) (BitVec.ofNat 32 (L 0).val)) 512#32) (Q := Q')
  simp only [wp_bind] at hct hre
  have hO' : ∀ g, (O + oxV d (cV L)) g none = 0 := fun g => by rw [Pi.add_apply, Finsupp.add_apply, hO g, oxV_none]
  ihave Hmw := (show levAts (K (F := F)).L (K (F := F)).lev ⊢ Transfers.MayWaits (wk d L) (default : HIx 1) (O + oxV d (cV L)) from
    (K (F := F)).mayWaits_none (thr := V d (cV L) (jV L)) hO') $$ Hlv
  by_cases h0 : (L 1).val = 0
  · rw [dif_pos ((tile0_iff (L 1)).mpr h0)]
    simp only [wp_bind]
    ihave Hsh' := (Entails.of_eq (if_pos h0)) $$ Hsh
    icases Hsh' with ⟨%fs, Hsh⟩
    iapply (hct fs _) $$ [Hmw Hp Hsh Hts HO]
    · isplitl [Hmw]; · iexact Hmw
      isplitl [Hp]; · iexact Hp
      isplitl [Hsh]; · iexact Hsh
      isplitl [Hts]; · iexact Hts
      iexact HO
    iintro ⟨Hp, Hsh, Hts, HO⟩
    iapply (hre _) $$ [Htoks Hat Hcred Ht Ho Hsh Hi Hr Hgs Hss His HO]
    · isplitl []; · iexact Hlv
      isplitl [Htoks Hat Hcred]
      · unfold bkit
        isplitl []; · iexists κ; iexact Hinv
        isplitl [Htoks]; · iexact Htoks
        isplitl []; · iexact Hrch
        isplitl [Hat]; · iexact Hat
        iexact Hcred
      isplitl [Ht]; · iexact Ht
      isplitl [Ho]; · iexact Ho
      isplitl [Hsh]; · iapply (Entails.of_eq (if_pos h0).symm); iexact Hsh
      isplitl [Hi]; · iexists fi; iexact Hi
      isplitl [Hr]; · iexact Hr
      isplitl [Hgs]; · iexact Hgs
      isplitl [Hss]; · iexact Hss
      isplitl [His]; · iexact His
      iexact HO
    iintro ⟨Ht, Ho, Hs, Hbar, Hi, Hr, Hgs, Hss, His, HO⟩
    isplitl [Ht Hp Ho Hs Hbar]
    · unfold tdR
      isplitl [Ht]; · iexact Ht
      isplitl [Hp]; · iexact Hp
      isplitl [Ho]; · iexact Ho
      isplitl [Hs]; · iexact Hs
      iexact Hbar
    isplitl [Hi Hr Hbufs]
    · isplitl [Hi]; · iexact Hi
      isplitl [Hr]; · iexact Hr
      iexact Hbufs
    isplitr [HO]
    · isplitl [Hgs]; · iexact Hgs
      isplitl [Hss]; · iexact Hss
      isplitl [Hts]; · iexact Hts
      isplitl [His]; · iexact His
      iexact Hsems
    unfold OW
    iexact HO
  · rw [dif_neg (fun h => h0 ((tile0_iff (L 1)).mp h))]
    simp only [wp_bind]
    iclear Hsh
    iapply (hre _) $$ [Htoks Hat Hcred Ht Ho Hi Hr Hgs Hss His HO]
    · isplitl []; · iexact Hlv
      isplitl [Htoks Hat Hcred]
      · unfold bkit
        isplitl []; · iexists κ; iexact Hinv
        isplitl [Htoks]; · iexact Htoks
        isplitl []; · iexact Hrch
        isplitl [Hat]; · iexact Hat
        iexact Hcred
      isplitl [Ht]; · iexact Ht
      isplitl [Ho]; · iexact Ho
      isplitl []; · iapply (Entails.of_eq (if_neg h0).symm); iempintro
      isplitl [Hi]; · iexists fi; iexact Hi
      isplitl [Hr]; · iexact Hr
      isplitl [Hgs]; · iexact Hgs
      isplitl [Hss]; · iexact Hss
      isplitl [His]; · iexact His
      iapply (ow_intro_in d L (O + oxV d (cV L)) W (fun p hp => .inl hp)) $$ HO
    iintro ⟨Ht, Ho, Hs, Hbar, Hi, Hr, Hgs, Hss, His, HO⟩
    isplitl [Ht Hp Ho Hs Hbar]
    · unfold tdR
      isplitl [Ht]; · iexact Ht
      isplitl [Hp]; · iexact Hp
      isplitl [Ho]; · iexact Ho
      isplitl [Hs]; · iexact Hs
      iexact Hbar
    isplitl [Hi Hr Hbufs]
    · isplitl [Hi]; · iexact Hi
      isplitl [Hr]; · iexact Hr
      iexact Hbufs
    isplitr [HO]
    · isplitl [Hgs]; · iexact Hgs
      isplitl [Hss]; · iexact Hss
      isplitl [Hts]; · iexact Hts
      isplitl [His]; · iexact His
      iexact Hsems
    unfold OW
    iexact HO

end Emb

end
-- ==== Proof.Launch.lean ====
/-
  The call: each worker's task against the launch's obligation, a SparseCore's hand-out to its tiles and the return, and
  the ghost state the launch starts from.
-/
module

public import proofs.«01_k».proof.Proof.Tile

@[expose] public section

noncomputable section

namespace Emb

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (Tm : Dev nD → S20x16384.Idx → Elt F .i32) (Pe : Dev nD → S367x128.Idx → Elt F .f32)

/-! ## The task at its thread -/

theorem defs₀_vector (c : Fin τ.nSC) (s : Fin τ.nSub) :
    defs₀ (F := F) (.scVector c s) 0 ()
      = SparseCore.onTile hcore0 hsub0 (fun c s => cc0_k (coordsV c s)
          TV (Memref.isWhole_whole _) PV (Memref.isWhole_whole _) OV (Memref.isWhole_whole _) IV (Memref.isWhole_whole _)
          RV (Memref.isWhole_whole _) SV (Memref.isWhole_whole _) cc0_scratch3 cc0_scratch4 cc0_scoped0 cc0_scoped1) ⟨⟩ c s := rfl

set_option maxRecDepth 16384 in
theorem tileObl (hT : ∀ d i, BitVec.toNat (Tm d i) < 367) (hF : (K (F := F)).Facts) : (K (F := F)).TileObl (D (F := F)) 𝒱 (P Tm Pe) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) O W Tm Pe hT hF hO hOlev

/-! ## A SparseCore's hand-out and the return -/

theorem ownBufs_S (d : Dev nD) (c : Fin τ.nSC) :
    (ownBufs (S d c) : sProp 𝕄)
      = iprop((∃ f, shLoc d c ↦[Finset.univ]{fullShare} f)
          ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- Tile 0 takes the whole of the shared memory, the other tiles none of it. -/
theorem only_first (X : sProp 𝕄) : (bigSep Finset.univ fun i : Fin 16 => if i.val = 0 then X else iprop(emp)) = X := by
  rw [SparseCore.bigSep_erase' (Finset.mem_univ (0 : Fin 16)),
    show (bigSep (Finset.univ.erase (0 : Fin 16)) fun i : Fin 16 => if i.val = 0 then X else iprop(emp))
      = bigSep (Finset.univ.erase (0 : Fin 16)) fun _ => (iprop(emp) : sProp 𝕄) from
      bigSep_congr fun i hi => if_neg fun h => (Finset.mem_erase.mp hi).1 (Fin.ext h), emp_all]
  show iprop(X ∗ emp) = X
  have e : X ⊢ iprop(X ∗ emp) := by
    iintro H
    isplitl; · iexact H
    iempintro
  exact BI.equiv_iff.mp ⟨(sep_elim_left : iprop(X ∗ emp) ⊢ X), e⟩

theorem go_all (d : Dev nD) (c : Fin 2) : (bigSep Finset.univ fun i : Fin 16 => goR Tm Pe d (coordsV c i))
    = iprop((tLoc d ↦[Finset.univ]{cq c} Tm d) ∗ (pLoc d ↦[Finset.univ]{cq c} Pe d)
        ∗ (bigSep Finset.univ fun i : Fin 16 => outsA (F := F) d (coordsV c i)) ∗ ∃ f, shLoc d (c.castLE hcore0) ↦[Finset.univ]{fullShare} f) := by
  rw [pointsTo_piecesOf (ℓ := tLoc d) Finset.univ (Tm d) sixteen_pos (cq c), pointsTo_piecesOf (ℓ := pLoc d) Finset.univ (Pe d) sixteen_pos (cq c),
    ← only_first (iprop(∃ f, shLoc d (c.castLE hcore0) ↦[Finset.univ]{fullShare} f)), ← bigSep_sep', ← bigSep_sep', ← bigSep_sep']
  exact bigSep_congr fun i _ => rfl

theorem td_all (d : Dev nD) (c : Fin 2) : (bigSep Finset.univ fun i : Fin 16 => tdR Tm Pe d (coordsV c i))
    = iprop((tLoc d ↦[Finset.univ]{cq c} Tm d) ∗ (pLoc d ↦[Finset.univ]{cq c} Pe d)
        ∗ (bigSep Finset.univ fun i : Fin 16 => outsW Tm Pe d (coordsV c i)) ∗ (shLoc d (c.castLE hcore0) ↦[Finset.univ]{fullShare} Pe d)
        ∗ bigSep Finset.univ fun i : Fin 16 => semVal (bcell d (c.castLE hcore0) (i.castLE hsub0)) 0) := by
  rw [pointsTo_piecesOf (ℓ := tLoc d) Finset.univ (Tm d) sixteen_pos (cq c), pointsTo_piecesOf (ℓ := pLoc d) Finset.univ (Pe d) sixteen_pos (cq c),
    pointsTo_piecesOf (ℓ := shLoc d (c.castLE hcore0)) Finset.univ (Pe d) sixteen_pos fullShare, ← bigSep_sep', ← bigSep_sep', ← bigSep_sep', ← bigSep_sep']
  exact bigSep_congr fun i _ => rfl

theorem deal (d : Dev nD) (c : Fin 2) : iprop(stR Tm Pe d c ∗ ownBufs (S d (c.castLE hcore0))) ⊢ |={Set.univ}=> iprop(
      (bigSep Finset.univ fun i : Fin 16 => goR Tm Pe d (coordsV c i))
      ∗ ((bigSep Finset.univ fun i : Fin 16 => tdR Tm Pe d (coordsV c i)) -∗ iprop(dnR Tm Pe d c ∗ ownBufs (S d (c.castLE hcore0))))) := by
  rw [go_all, td_all, ownBufs_S]
  unfold stR dnR
  iintro ⟨⟨Ht, Hp, Ho⟩, Hsh, Hrest⟩
  imodintro
  isplitl [Ht Hp Ho Hsh]
  · isplitl [Ht]; · iexact Ht
    isplitl [Hp]; · iexact Hp
    isplitl [Ho]; · iexact Ho
    iexact Hsh
  iintro ⟨Ht, Hp, Ho, Hsh, Hb⟩
  isplitl [Ht Hp Ho Hb]
  · isplitl [Ht]; · iexact Ht
    isplitl [Hp]; · iexact Hp
    isplitl [Ho]; · iexact Ho
    iexact Hb
  isplitl [Hsh]; · iexists _; iexact Hsh
  iexact Hrest

theorem vecSplit : (K (F := F)).VecSplit (P Tm Pe) 0 := fun d c => deal Tm Pe d c

/-! ## The ghost state the launch starts from -/

abbrev DCI : Type := Dev nD × Fin τ.nSC × Fin τ.nSub
abbrev bcell₃ (x : DCI) : GSem nD τ sig := bcell x.1 x.2.1 x.2.2

/-- The token of tile `x` in the round of tile `j` of the same SparseCore. -/
abbrev tokOf (y : DCI × Fin (grid0.bound 1)) : GSem nD τ sig × ℕ × ℕ := (bcell₃ (y.1.1, y.1.2.1, y.2.castLE hsub0), 0, y.1.2.2.val)

/-- Every tile's barrier semaphore, and in each the token of every tile of the same SparseCore. -/
def bCells : Finset (GSem nD τ sig) := Finset.univ.image bcell₃
def bToks : Finset (GSem nD τ sig × ℕ × ℕ) :=
  (Finset.univ ×ˢ Finset.univ).image tokOf
def u₀ : UU := (initOf (K (F := F)).hsCells (K (F := F)).hsToks, (initOf bCells bToks, 1))

theorem bcell₃_injective : Function.Injective (bcell₃ : DCI → GSem nD τ sig) := fun a b e => by
  obtain ⟨h1, h2⟩ := Prod.mk.inj (Prod.mk.inj e).1
  obtain ⟨h3, h4⟩ := Proc.scVector.inj h2
  exact Prod.ext h1 (Prod.ext h3 h4)

theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

theorem sems_b : ((K (F := F)).freeOn (· ∈ bCells) : sProp 𝕄) ⊢ bigSep bCells fun g => semVal g 0 := by
  rw [bCells_eq]
  unfold SparseCore.Cfg.freeOn
  refine sep_elim_right.trans (bigSep_mono fun x _ => ?_)
  exact bigSep_elim (Φ := fun sm : SemLoc sig => (semVal (V x.1 x.2.1 x.2.2, sm) 0 : sProp 𝕄)) (Finset.mem_filter.mpr
    ⟨Finset.mem_erase.mpr ⟨fun h => bar_ne_go (SemLoc.reg.inj h), Finset.mem_filter.mpr ⟨Finset.mem_univ _, by decide⟩⟩,
      Finset.mem_image_of_mem bcell₃ (Finset.mem_univ x)⟩)

theorem invs_b : iprop((bigSep bCells fun g => (semVal g 0 : sProp 𝕄)) ∗ bigSep bCells fun g => roundState EB (bRd Pe) g 0)
    ⊢ |={Set.univ}=> iprop(∃ κ : GSem nD τ sig → ℕ, bigSep bCells fun g => cellInv EB (bRd Pe) (κ g) g) := by
  refine (Rounds.bodies_intro EB (bRd Pe) bCells).trans ((inv_alloc_family bCells (Rounds.body EB (bRd Pe)) ∅ (E := Set.univ)).trans ?_)
  iintro H
  imod H with ⟨%κ, -, Hinv⟩
  imodintro; iexists κ; iexact Hinv

theorem tally_units (g : GSem nD τ sig) (ι : HIx 1) (n : ℕ) : ∑ _ : Fin n, tallyAt g ι 1 = (tallyAt g ι n : CellTallies nD τ sig (HIx 1)) := by
  induction n with
  | zero => rw [Finset.univ_eq_empty, Finset.sum_empty, tallyAt_zero]
  | succ n ih => rw [Fin.sum_univ_castSucc, ih, tallyAt_add]

theorem oxFrom_V (d : Dev nD) (c : Fin τ.nSC) (i : Fin τ.nSub) : (P Tm Pe).oxFrom 0 (V d c i) = oxV d c := by
  rw [show (0 : ℕ) = (0 : Fin 1).val from rfl, (P Tm Pe).oxFrom_step, (P Tm Pe).oxFrom_end _ (n := (0 : Fin 1).val + 1) le_rfl, add_zero]; rfl

/-- The units the tiles owe, regrouped by the semaphore they go to. -/
theorem creds_b : ((P Tm Pe).oxCred : sProp 𝕄) ⊢ bigSep Finset.univ fun x : DCI => cred (tallyAt (bcell₃ x) (some 0) (grid0.bound 1)) := by
  unfold SparseCore.Cfg.Pay.oxCred
  rw [SparseCore.Cfg.bigSep_threads (fun thr : Thread nD τ => (cred ((P Tm Pe).oxFrom 0 thr) : sProp 𝕄))]
  refine sep_elim_right.trans (sep_elim_right.trans ?_)
  rw [bigSep_univ_prod, bigSep_univ_prod (fun x : DCI => (cred (tallyAt (bcell₃ x) (some 0) (grid0.bound 1)) : sProp 𝕄))]
  refine bigSep_mono fun d _ => ?_
  rw [bigSep_univ_prod, bigSep_univ_prod (fun y : Fin τ.nSC × Fin τ.nSub => (cred (tallyAt (bcell₃ (d, y)) (some 0) (grid0.bound 1)) : sProp 𝕄))]
  refine bigSep_mono fun c _ => ?_
  simp only [oxFrom_V]
  unfold oxV
  rw [SparseCore.Cfg.cred_finsum, bigSep_univ_comm]
  refine bigSep_mono fun j _ => ?_
  rw [← SparseCore.Cfg.cred_finsum, tally_units]; rfl

theorem tokOf_injective : Function.Injective tokOf := by
  intro y z e
  have hcell := Prod.mk.inj (bcell₃_injective (congrArg Prod.fst e))
  have hmine : y.1.2.2 = z.1.2.2 := Fin.ext (congrArg (fun t => t.2.2) e)
  have htile := Prod.mk.inj hcell.2
  have hround : y.2 = z.2 := Fin.castLE_injective hsub0 htile.2
  exact Prod.ext (Prod.ext hcell.1 (Prod.ext htile.1 hmine)) hround

theorem toks_eq : (bigSep bToks fun x => (dutyTok EB x.1 x.2.1 x.2.2 : sProp 𝕄))
    = bigSep Finset.univ fun x : DCI => bigSep Finset.univ fun j : Fin (grid0.bound 1) => dutyTok EB (bcell x.1 x.2.1 (j.castLE hsub0)) 0 x.2.2.val :=
  (SparseCore.bigSep_image_of_injOn tokOf_injective.injOn _).trans (SparseCore.bigSep_product _ _ _)

/-- What every tile is handed alike, and what each is handed of its own. -/
abbrev shared : sProp 𝕄 :=
  iprop((∃ κ : GSem nD τ sig → ℕ, bigSep Finset.univ fun x : DCI => cellInv EB (bRd Pe) (κ (bcell₃ x)) (bcell₃ x))
    ∗ bigSep Finset.univ fun x : DCI => reached EB (bcell₃ x) 0)
abbrev mine (x : DCI) : sProp 𝕄 :=
  iprop(atPos EB (bcell₃ x) 0 ∅ 0
    ∗ (bigSep Finset.univ fun j : Fin (grid0.bound 1) => dutyTok EB (bcell x.1 x.2.1 (j.castLE hsub0)) 0 x.2.2.val)
    ∗ cred (tallyAt (bcell₃ x) (some 0) (grid0.bound 1)))

theorem kit_intro (x : DCI) : iprop(shared Pe ∗ mine x) ⊢ (bkit Pe x.1 x.2.1 x.2.2 : sProp 𝕄) := by
  obtain ⟨d, c, i⟩ := x
  iintro ⟨⟨#Hinv, #Hr⟩, Hat, Htok, Hcred⟩
  unfold bkit
  isplitr
  · icases Hinv with ⟨%κ, Hinv⟩
    iexists κ
    iapply (SparseCore.ent (bigSep_intro_persistent (S := (Finset.univ : Finset (Fin (grid0.bound 1))))
      (R := bigSep Finset.univ fun x : DCI => cellInv EB (bRd Pe) (κ (bcell₃ x)) (bcell₃ x)) fun j _ =>
        bigSep_elim (Φ := fun x : DCI => (cellInv EB (bRd Pe) (κ (bcell₃ x)) (bcell₃ x) : sProp 𝕄)) (Finset.mem_univ (d, c, Fin.castLE hsub0 j))))
    iexact Hinv
  isplitl [Htok]; · iexact Htok
  isplitr
  · iapply (SparseCore.ent (bigSep_intro_persistent (S := (Finset.univ : Finset (Fin (grid0.bound 1)))) (R := bigSep Finset.univ fun x : DCI => reached EB (bcell₃ x) 0)
      fun j _ => bigSep_elim (Φ := fun x : DCI => (reached EB (bcell₃ x) 0 : sProp 𝕄)) (Finset.mem_univ (d, c, Fin.castLE hsub0 j))))
    iexact Hr
  isplitl [Hat]; · iexact Hat
  iexact Hcred

theorem Px_T (d : Dev nD) : (bigSep Finset.univ fun q : Fin 1 => (P Tm Pe).x q (SparseCore.T d)) = iprop(emp) :=
  bigSep_univ_of_subsingleton (0 : Fin 1)
theorem Px_S (d : Dev nD) (c : Fin τ.nSC) : (bigSep Finset.univ fun q : Fin 1 => (P Tm Pe).x q (S d c)) = iprop(emp) :=
  bigSep_univ_of_subsingleton (0 : Fin 1)
theorem Px_V (d : Dev nD) (c : Fin τ.nSC) (i : Fin τ.nSub) : (bigSep Finset.univ fun q : Fin 1 => (P Tm Pe).x q (V d c i)) = bkit Pe d c i :=
  bigSep_univ_of_subsingleton (0 : Fin 1)

theorem kits_deal :
    iprop(shared Pe ∗ (bigSep Finset.univ fun x : DCI => atPos EB (bcell₃ x) 0 ∅ 0)
        ∗ (bigSep Finset.univ fun x : DCI => bigSep Finset.univ fun j : Fin (grid0.bound 1) => dutyTok EB (bcell x.1 x.2.1 (j.castLE hsub0)) 0 x.2.2.val)
        ∗ (bigSep Finset.univ fun x : DCI => cred (tallyAt (bcell₃ x) (some 0) (grid0.bound 1))))
      ⊢ (bigSep Finset.univ fun thr : Thread nD τ => bigSep Finset.univ fun q : Fin 1 => (P Tm Pe).x q thr : sProp 𝕄) := by
  rw [SparseCore.Cfg.bigSep_threads (fun thr : Thread nD τ => bigSep Finset.univ fun q : Fin 1 => (P Tm Pe).x q thr)]
  simp only [Px_T, Px_S, Px_V, emp_all]
  iintro ⟨#Hsh, Hat, Htok, Hcred⟩
  isplitr; · iempintro
  isplitr; · iempintro
  iapply (Transfers.bigSep_mono_pers Finset.univ (shared Pe) (mine (F := F)) _ fun x _ => kit_intro Pe x)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P Tm Pe).oxCred ∗ (K (F := F)).freeOn (· ∈ bCells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P Tm Pe).x q thr) : sProp 𝕄) := by
  unfold u₀
  iintro ⟨Hu, Hcred, Hfree⟩
  ihave H := (ownU_split _ _) $$ Hu
  icases H with ⟨HH, HB⟩
  imod (Rounds.fund EB (bRd Pe) bCells bToks) $$ HB with ⟨Hst, #Hr, Hat, Htok⟩
  ihave Hsems := (sems_b (F := F)) $$ Hfree
  imod (invs_b Pe) $$ [Hsems Hst] with ⟨%κ, #Hinv⟩
  · isplitl [Hsems] <;> iassumption
  ihave Hcred' := (creds_b Tm Pe) $$ Hcred
  ihave Hinv' := (Entails.of_eq (bCells_eq (F := F) fun g => cellInv EB (bRd Pe) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [emp_all]; iempintro
  iapply (kits_deal Tm Pe)
  isplitr
  · isplitl; · iexists κ; iexact Hinv'
    iexact Hr'
  isplitl [Hat']; · iexact Hat'
  isplitl [Htok']; · iexact Htok'
  iexact Hcred'

end Emb

end
-- ==== Proof.Main.lean ====
/-
  The whole program: the index array transposed, the call, its result transposed; and the run that follows.
-/
module

public import proofs.«01_k».proof.Proof.Launch
public import Idealize.ShloMosaic.Lib.SparseCore.Quiescent
public import Idealize.ShloMosaic.Lib.StableHlo.Run

@[expose] public section

noncomputable section

namespace Emb

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The output in its chunks -/

abbrev Win : Type := Fin 2 × Fin 16 × Fin 32 × Fin 5
abbrev outSet (w : Win) : Finset S20x16384x128.Idx := (outS (coordsV w.1 w.2.1) w.2.2.1 w.2.2.2).view.set

theorem mem_outSet (w : Win) (i : S20x16384x128.Idx) : i ∈ outSet w ↔
    (5 * w.2.2.1.val + w.2.2.2.val) / 8 = (i 0).val
      ∧ 1024 * w.2.1.val + 512 * w.1.val + 64 * ((5 * w.2.2.1.val + w.2.2.2.val) % 8) ≤ (i 1).val
      ∧ (i 1).val < 1024 * w.2.1.val + 512 * w.1.val + 64 * ((5 * w.2.2.1.val + w.2.2.2.val) % 8) + 64 := by
  refine (mem_outW _ _ i).trans ⟨fun h => ?_, fun h a => ?_⟩
  · have h0 : (5 * w.2.2.1.val + w.2.2.2.val) / 8 ≤ (i 0).val ∧ (i 0).val < (5 * w.2.2.1.val + w.2.2.2.val) / 8 + 1 := h 0
    have h1 : 1024 * w.2.1.val + 512 * w.1.val + 64 * ((5 * w.2.2.1.val + w.2.2.2.val) % 8) ≤ (i 1).val
      ∧ (i 1).val < 1024 * w.2.1.val + 512 * w.1.val + 64 * ((5 * w.2.2.1.val + w.2.2.2.val) % 8) + 64 := h 1
    exact ⟨by omega, h1⟩
  · match a with
    | 0 => show (5 * w.2.2.1.val + w.2.2.2.val) / 8 ≤ (i 0).val ∧ (i 0).val < (5 * w.2.2.1.val + w.2.2.2.val) / 8 + 1; omega
    | 1 => exact h.2
    | 2 => exact ⟨Nat.zero_le _, lt_of_lt_of_eq (i 2).isLt (Nat.zero_add _).symm⟩

theorem outs_disjoint : ∀ w ∈ (Finset.univ : Finset Win), ∀ w' ∈ (Finset.univ : Finset Win), w ≠ w' → Disjoint (outSet w) (outSet w') := by
  rintro ⟨c, j, s, b⟩ - ⟨c', j', s', b'⟩ - hne
  rw [Finset.disjoint_left]
  intro i hi hi'
  obtain ⟨a0, a1, a2⟩ := (mem_outSet _ i).mp hi
  obtain ⟨d0, d1, d2⟩ := (mem_outSet _ i).mp hi'
  dsimp only at a0 a1 a2 d0 d1 d2
  have := c.isLt; have := c'.isLt; have := j.isLt; have := j'.isLt
  have := s.isLt; have := s'.isLt; have := b.isLt; have := b'.isLt
  have e1 : (i 1).val / 64 = 16 * j.val + 8 * c.val + (5 * s.val + b.val) % 8 := by omega
  have e2 : (i 1).val / 64 = 16 * j'.val + 8 * c'.val + (5 * s'.val + b'.val) % 8 := by omega
  refine hne (Prod.ext (Fin.ext ?_) (Prod.ext (Fin.ext ?_) (Prod.ext (Fin.ext ?_) (Fin.ext ?_))))
  · show c.val = c'.val; omega
  · show j.val = j'.val; omega
  · show s.val = s'.val; omega
  · show b.val = b'.val; omega

theorem outs_cover : (Finset.univ : Finset Win).biUnion outSet = Finset.univ := by
  ext i
  simp only [Finset.mem_univ, iff_true, Finset.mem_biUnion, true_and]
  have h0 : (i 0).val < 20 := (i 0).isLt
  have h1 : (i 1).val < 16384 := (i 1).isLt
  refine ⟨(⟨(i 1).val / 512 % 2, by omega⟩, ⟨(i 1).val / 1024, by omega⟩,
    ⟨(8 * (i 0).val + (i 1).val % 512 / 64) / 5, by omega⟩, ⟨(8 * (i 0).val + (i 1).val % 512 / 64) % 5, by omega⟩), (mem_outSet _ i).mpr ?_⟩
  dsimp only
  have e : 5 * ((8 * (i 0).val + (i 1).val % 512 / 64) / 5) + (8 * (i 0).val + (i 1).val % 512 / 64) % 5 = 8 * (i 0).val + (i 1).val % 512 / 64 :=
    Nat.div_add_mod _ _
  rw [e]
  omega

theorem out_chunks (d : Dev nD) (f : Buf (Elt F) (oLoc d)) : (oLoc d ↦[Finset.univ]{fullShare} f : sProp 𝕄)
    = bigSep Finset.univ fun c : Fin 2 => bigSep Finset.univ fun j : Fin 16 => bigSep Finset.univ fun s : Fin 32 => bigSep Finset.univ fun b : Fin 5 =>
        oLoc d ↦[outSet (c, j, s, b)]{fullShare} f := by
  rw [← outs_cover, pointsTo_biUnion Finset.univ (ℓ := oLoc d) outSet outs_disjoint, bigSep_univ_prod]
  refine bigSep_congr fun c _ => ?_
  rw [bigSep_univ_prod]
  refine bigSep_congr fun j _ => ?_
  rw [bigSep_univ_prod]

theorem out_start (d : Dev nD) (f : Buf (Elt F) (oLoc d)) : (oLoc d ↦[Finset.univ]{fullShare} f : sProp 𝕄)
    ⊢ bigSep Finset.univ fun c : Fin 2 => bigSep Finset.univ fun j : Fin 16 => outsA (F := F) d (coordsV c j) := by
  rw [out_chunks]
  unfold outsA outAny
  exact bigSep_mono fun c _ => bigSep_mono fun j _ => bigSep_mono fun s _ => bigSep_mono fun b _ => by
    exact BI.BIClass.exists_intro (Φ := fun f : Buf (Elt F) (oLoc d) => iprop(oLoc d ↦[outSet (c, j, s, b)]{fullShare} f)) f

variable (Tm : Dev nD → S20x16384.Idx → Elt F .i32) (Pe : Dev nD → S367x128.Idx → Elt F .f32)

theorem out_end (d : Dev nD) : (bigSep Finset.univ fun c : Fin 2 => bigSep Finset.univ fun j : Fin 16 => outsW Tm Pe d (coordsV c j))
    = (oLoc d ↦[Finset.univ]{fullShare} (OUT (Tm d) (Pe d) : Buf (Elt F) (oLoc d)) : sProp 𝕄) := by
  rw [out_chunks]
  unfold outsW outG
  rfl

/-! ## What the call takes and gives back -/

/-- Every tile's barrier semaphore at zero. -/
abbrev bars (d : Dev nD) : sProp 𝕄 :=
  bigSep Finset.univ fun c : Fin 2 => bigSep Finset.univ fun i : Fin 16 => semVal (bcell d (c.castLE hcore0) (i.castLE hsub0)) 0

theorem st0_eq (d : Dev nD) : (bigSep Finset.univ fun c : Fin ((K (F := F)).nCore 0) => (P Tm Pe).st 0 d c)
    = iprop((tLoc d ↦[Finset.univ]{fullShare} Tm d) ∗ (pLoc d ↦[Finset.univ]{fullShare} Pe d)
        ∗ bigSep Finset.univ fun c : Fin 2 => bigSep Finset.univ fun i : Fin 16 => outsA (F := F) d (coordsV c i)) := by
  rw [pointsTo_piecesOf (ℓ := tLoc d) Finset.univ (Tm d) two_pos fullShare, pointsTo_piecesOf (ℓ := pLoc d) Finset.univ (Pe d) two_pos fullShare,
    ← bigSep_sep', ← bigSep_sep']
  exact bigSep_congr fun c _ => rfl

theorem dn0_eq (d : Dev nD) : (bigSep Finset.univ fun c : Fin ((K (F := F)).nCore 0) => (P Tm Pe).dn 0 d c)
    = iprop((tLoc d ↦[Finset.univ]{fullShare} Tm d) ∗ (pLoc d ↦[Finset.univ]{fullShare} Pe d)
        ∗ (oLoc d ↦[Finset.univ]{fullShare} (OUT (Tm d) (Pe d) : Buf (Elt F) (oLoc d))) ∗ bars d) := by
  rw [← out_end, pointsTo_piecesOf (ℓ := tLoc d) Finset.univ (Tm d) two_pos fullShare, pointsTo_piecesOf (ℓ := pLoc d) Finset.univ (Pe d) two_pos fullShare,
    ← bigSep_sep', ← bigSep_sep', ← bigSep_sep']
  exact bigSep_congr fun c _ => rfl

/-! ## The TensorCore's five arrays -/

abbrev a' : DevRef τ sig := Proc.devRef .tc (main_arg0 : Ref sig .tc)
abbrev p' : DevRef τ sig := Proc.devRef .tc (main_arg1 : Ref sig .tc)
abbrev t' : DevRef τ sig := Proc.devRef .tc (main_v0 : Ref sig .tc)
abbrev o' : DevRef τ sig := Proc.devRef .tc (main_v1 : Ref sig .tc)
abbrev r' : DevRef τ sig := Proc.devRef .tc (main_v2 : Ref sig .tc)

abbrev aLoc (d : Dev nD) : Loc nD τ sig := (SparseCore.T d).loc main_arg0
abbrev rLoc (d : Dev nD) : Loc nD τ sig := (SparseCore.T d).loc main_v2

abbrev S5 : Finset (DevRef τ sig) := {a', p', t', o', r'}

abbrev opIn : HloOp τ sig (Elt F) :=
  StableHlo.unary main_arg0 main_v0 ((transpose S20x16384 [1, 0] · transposes_S16384x20_S20x16384_1_0) : (⟨S16384x20, .i32⟩ : BufTy).Contents (Elt F) → (⟨S20x16384, .i32⟩ : BufTy).Contents (Elt F))
abbrev opOut : HloOp τ sig (Elt F) :=
  StableHlo.unary main_v1 main_v2 ((transpose S16384x20x128 [1, 0, 2] · transposes_S20x16384x128_S16384x20x128_1_0_2) : (⟨S20x16384x128, .f32⟩ : BufTy).Contents (Elt F) → (⟨S16384x20x128, .f32⟩ : BufTy).Contents (Elt F))

theorem hIn : (opIn (F := F)).bufs ⊆ S5 := show ({a', t'} : Finset (DevRef τ sig)) ⊆ S5 by decide
theorem hOut : (opOut (F := F)).bufs ⊆ S5 := show ({o', r'} : Finset (DevRef τ sig)) ⊆ S5 by decide

theorem held_S5 (d : Dev nD) (W : Valuation τ sig (Elt F)) :
    (held (SparseCore.T d) S5 W : sProp 𝕄) = iprop((aLoc d ↦{fullShare} W a') ∗ (pLoc d ↦{fullShare} W p') ∗ (tLoc d ↦{fullShare} W t')
      ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄) = iprop((aLoc d ↦{fullShare} W main_arg0) ∗ (pLoc d ↦{fullShare} W main_arg1) ∗ (tLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

variable (m : (ℓ : Loc nD τ sig) → Buf (Elt F) ℓ) (ρ : Dev nD → PrngReg)

/-- The indices as the kernel reads them, the table, and the result. -/
def Tv (d : Dev nD) : S20x16384.Idx → Elt F .i32 := transpose S20x16384 [1, 0] (m (aLoc d) : S16384x20.Idx → Elt F .i32) transposes_S16384x20_S20x16384_1_0
def Pv (d : Dev nD) : S367x128.Idx → Elt F .f32 := m (pLoc d)
def Rv (d : Dev nD) : S16384x20x128.Idx → Elt F .f32 :=
  transpose S16384x20x128 [1, 0, 2] (OUT (Tv m d) (Pv m d)) transposes_S20x16384x128_S16384x20x128_1_0_2

theorem Tv_lt (h : ∀ d (i : S16384x20.Idx), BitVec.toNat ((m (aLoc d) : S16384x20.Idx → Elt F .i32) i) < 367) (d : Dev nD) (i) :
    BitVec.toNat (Tv m d i) < 367 := h d _

/-- The five arrays at the start, and once the call is over. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) o' (OUT (Tv m d) (Pv m d))

theorem unscoped_held (d : Dev nD) : (unscopedBufs d (fun b => m ((SparseCore.T d).loc b)) : sProp 𝕄) = held (SparseCore.T d) S5 (V0 m d) := by
  rw [unscopedBufs_eq, held_S5]; rfl

theorem V1_ne (d : Dev nD) (b : DevRef τ sig) (h : b ∉ ({t'} : Finset (DevRef τ sig))) : V1 m d b = m (d, b) :=
  (opIn (F := F)).result_of_not_mem _ h
theorem V1_t (d : Dev nD) : V1 m d t' = Tv m d := StableHlo.unary_result _ _ _ _ _ _
theorem V2_o (d : Dev nD) : V2 m d o' = OUT (Tv m d) (Pv m d) := Function.update_self _ _ _
theorem V2_ne (d : Dev nD) (b : DevRef τ sig) (h : b ≠ o') : V2 m d b = V1 m d b := Function.update_of_ne h _ _

theorem held_V1 (d : Dev nD) : (held (SparseCore.T d) S5 ((opIn (F := F)).result (V0 m d)) : sProp 𝕄)
    = iprop((aLoc d ↦{fullShare} m (aLoc d)) ∗ (pLoc d ↦{fullShare} Pv m d) ∗ (tLoc d ↦{fullShare} Tv m d)
      ∗ (oLoc d ↦{fullShare} m (oLoc d)) ∗ rLoc d ↦{fullShare} m (rLoc d)) := by
  show held (SparseCore.T d) S5 (V1 m d) = _
  rw [held_S5, V1_ne m d a' (by decide), V1_ne m d p' (by decide), V1_t, V1_ne m d o' (by decide), V1_ne m d r' (by decide)]
  rfl

theorem held_V2 (d : Dev nD) : (held (SparseCore.T d) S5 (V2 m d) : sProp 𝕄)
    = iprop((aLoc d ↦{fullShare} m (aLoc d)) ∗ (pLoc d ↦{fullShare} Pv m d) ∗ (tLoc d ↦{fullShare} Tv m d)
      ∗ (oLoc d ↦{fullShare} (OUT (Tv m d) (Pv m d) : Buf (Elt F) (oLoc d))) ∗ rLoc d ↦{fullShare} m (rLoc d)) := by
  rw [held_S5, V2_o, V2_ne m d a' (by decide), V2_ne m d p' (by decide), V2_ne m d t' (by decide), V2_ne m d r' (by decide),
    V1_ne m d a' (by decide), V1_ne m d p' (by decide), V1_t, V1_ne m d r' (by decide)]
  rfl

theorem held_V3 (d : Dev nD) : (held (SparseCore.T d) S5 ((opOut (F := F)).result (V2 m d)) : sProp 𝕄)
    = iprop((aLoc d ↦{fullShare} m (aLoc d)) ∗ (pLoc d ↦{fullShare} m (pLoc d)) ∗ (tLoc d ↦{fullShare} Tv m d)
      ∗ (oLoc d ↦{fullShare} (OUT (Tv m d) (Pv m d) : Buf (Elt F) (oLoc d))) ∗ rLoc d ↦{fullShare} (Rv m d : Buf (Elt F) (rLoc d))) := by
  have hn : ∀ b : DevRef τ sig, b ∉ ({r'} : Finset (DevRef τ sig)) → (opOut (F := F)).result (V2 m d) b = V2 m d b :=
    fun b h => (opOut (F := F)).result_of_not_mem _ h
  have hr : (opOut (F := F)).result (V2 m d) r' = (Rv m d : Buf (Elt F) (rLoc d)) :=
    (StableHlo.unary_result _ _ _ _ _ _).trans (by rw [V2_o]; rfl)
  rw [held_S5, hr, hn a' (by decide), hn p' (by decide), hn t' (by decide), hn o' (by decide), V2_o, V2_ne m d a' (by decide),
    V2_ne m d p' (by decide), V2_ne m d t' (by decide), V1_ne m d a' (by decide), V1_ne m d p' (by decide), V1_t]

/-! ## The TensorCore's program -/

/-- What is left at the end: the arguments as they were, the result, every barrier semaphore at zero. -/
abbrev FIN (d : Dev nD) : sProp 𝕄 :=
  iprop((aLoc d ↦{fullShare} m (aLoc d)) ∗ (pLoc d ↦{fullShare} m (pLoc d)) ∗ (rLoc d ↦{fullShare} (Rv m d : Buf (Elt F) (rLoc d))) ∗ bars d)

theorem hmain (κ : GSem nD τ sig → ℕ) (d : Dev nD) :
    iprop((K (F := F)).ctx EH (P (Tv m) (Pv m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S5) hIn (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha, Hp, Ht, Ho, Hr⟩
  iapply ((K (F := F)).wp_run (D (F := F)) 𝒱 (EH := EH) (P := P (Tv m) (Pv m)) κ d 0) $$ [Hst Ha Hp Ht Ho Hr Hb Hts]
  isplitr; · iexact Hctx
  isplitl [Hst]; · iexact Hst
  isplitl [Hp Ht Ho]
  · rw [st0_eq]
    isplitl [Ht]; · iexact Ht
    isplitl [Hp]; · iexact Hp
    iapply (out_start d (m (oLoc d))) $$ Ho
  iintro ⟨Hst, Hdn⟩
  ihave Hdn' := (Entails.of_eq (dn0_eq (Tv m) (Pv m) d)) $$ Hdn
  icases Hdn' with ⟨Ht, Hp, Ho, Hbars⟩
  iapply (wp_hlo_within 𝒱 (SparseCore.T d) none Set.univ (op := opOut) (S := S5) hOut (V := V2 m d)) $$ [Hb Ha Hp Ht Ho Hr]
  · isplitl [Hb]; · iexact Hb
    rw [held_V2]
    isplitl [Ha]; · iexact Ha
    isplitl [Hp]; · iexact Hp
    isplitl [Ht]; · iexact Ht
    isplitl [Ho]; · iexact Ho
    iexact Hr
  iintro ⟨Hb, Hheld⟩
  ihave Hh := (Entails.of_eq (held_V3 (F := F) m d)) $$ Hheld
  icases Hh with ⟨Ha, Hp, -, -, Hr⟩
  rw [wp_ret]; imodintro; imodintro
  isplitl [Hst]; · iexact Hst
  isplitr [Hb Hts]
  · isplitl [Ha]; · iexact Ha
    isplitl [Hp]; · iexact Hp
    isplitl [Hr]; · iexact Hr
    iexact Hbars
  isplitl [Hb] <;> iassumption

/-! ## What a final state holds -/

def fq (d : Dev nD) (s' : Phys nD τ sig (Elt F)) : Prop :=
  s'.mem.mem (aLoc d) = m (aLoc d) ∧ s'.mem.mem (pLoc d) = m (pLoc d) ∧ s'.mem.mem (rLoc d) = Rv m d
    ∧ ∀ (c : Fin 2) (i : Fin 16), s'.mem.sem (bcell d (c.castLE hcore0) (i.castLE hsub0)) = 0

theorem read_whole (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := fun x hx =>
  ⟨((sep_mono_left sep_elim_left).trans (read_whole (aLoc d) _ s')) x hx,
    ((sep_mono_left (sep_elim_right.trans sep_elim_left)).trans (read_whole (pLoc d) _ s')) x hx,
    ((sep_mono_left (sep_elim_right.trans (sep_elim_right.trans sep_elim_left))).trans (read_whole (rLoc d) _ s')) x hx,
    fun c i => ((sep_mono_left (sep_elim_right.trans (sep_elim_right.trans (sep_elim_right.trans
      (SparseCore.ent ((bigSep_elim (Finset.mem_univ c)).trans (bigSep_elim (Finset.mem_univ i)))))))).trans (SparseCore.Cfg.semVal_zero_read _ s')) x hx⟩

theorem hA (s' : Phys nD τ sig (Elt F)) (h : ∀ d, fq m d s') (g : GSem nD τ sig) (hg : g ∈ bCells) : s'.mem.sem g = 0 := by
  obtain ⟨⟨d, c, i⟩, -, rfl⟩ := Finset.mem_image.mp hg
  exact (h d).2.2.2 ⟨c.val, c.isLt⟩ ⟨i.val, i.isLt⟩

/-! ## The run -/

def QC : PUnit × MemSt nD τ sig (Elt F) → Prop := fun r =>
  (∀ d : Dev nD, r.2.mem (rLoc d) = Rv m d ∧ r.2.mem (aLoc d) = m (aLoc d) ∧ r.2.mem (pLoc d) = m (pLoc d)) ∧ r.2.sem = fun _ => 0

theorem run_main [∀ e, Nonempty (Elt F e)] (h : ∀ d (i : S16384x20.Idx), BitVec.toNat ((m (aLoc d) : S16384x20.Idx → Elt F .i32) i) < 367) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Tv m) (Pv m)) (hA := hA m) facts v₀
    (fun q hq => match q with | 0 => nomatch hq)
    (fun q _ => match q with | 0 => tileObl (Tv m) (Pv m) (Tv_lt m h) facts)
    (fun q _ => match q with | 0 => vecSplit (Tv m) (Pv m))
    m ρ main (fun _ => iprop(emp)) (FIN m) (u₀ (F := F)) (hu₀ (Tv m) (Pv m)) (hmain m ρ) (fq m) (hfin m) (QC m)
    (fun _ h hz => ⟨fun d => ⟨(h d).2.2.1, (h d).1, (h d).2.1⟩, hz⟩)

end Emb

end
-- ==== Proof.Same.lean ====
/-
  What the precondition says of the index words; and the frames of the kernel. The program as printed and the program
  read with exact floats are one text, so a run of the one is a run of the other.
-/
module

public import proofs.«01_k».proof.Defs
public import proofs.«01_k».proof.Proof.Main
public import proofs.«01_k».proof.Proof.Gen.Kernel
public import proofs.«01_k».proof.Proof.Gen.Pre_in_range
public import Idealize.ShloMosaic.Lib.ReduceAll
public import Idealize.ShloMosaic.Lib.Claim

@[expose] public section

noncomputable section

namespace Emb

open Idealize.ShloMosaic Idealize.SL Idealize.SL.Sem

variable {F : FTy → Type} [FloatOps F]

/-- A signed word between 0 and 366 reads so unsigned. -/
theorem word_lt (v : BitVec 32) (e : IntOp.andi (IntOp.cmpi .sge v 0#32) (IntOp.cmpi .slt v 367#32) = 1#1) : v.toNat < 367 := by
  have bit (p : Bool) : (BitVec.ofBool p = 1#1) = (p = true) := by cases p <;> decide
  obtain ⟨h0, h1⟩ := IntOp.andi_eq_one.1 e
  simp only [IntOp.cmpi, bit, BitVec.sle_eq_decide, BitVec.slt_eq_decide, decide_eq_true_eq,
    BitVec.toInt_eq_toNat_cond, BitVec.toNat_ofNat, Nat.reducePow, Nat.reduceMod] at h0 h1
  omega

/-- The precondition: every index word is below 367. -/
theorem lt_of_pre (x : IVec Cert.Pre_in_range.S16384x20 32) (y : FVec F Cert.Pre_in_range.S367x128 .f32)
    (h : Cert.Pre_in_range.fn x y = fun _ => 1#1) (i : Cert.Pre_in_range.S16384x20.Idx) : (x i).toNat < 367 := by
  have : Subsingleton Cert.Pre_in_range.S_.Idx := ⟨fun a b => funext fun k => k.elim0⟩
  have e := Host.reduce_andi_all _ _ _ _ (Shape.Idx.first Cert.Pre_in_range.Gen.h_S_) (congrFun h _) i
  exact word_lt _ e

theorem frame_ideal : Cert.quiescent_KernelIdeal := fun m ρ hpre =>
  θ_run_mono (run_main (F := Ideal) m ρ fun d i => lt_of_pre _ _ (hpre d) i) fun _ h => ⟨fun c => ⟨(h.1 c).2.1, (h.1 c).2.2⟩, h.2⟩

theorem frame_kernel : Cert.quiescent_Kernel := fun m ρ hpre =>
  θ_run_mono (run_main (F := Bits) m ρ fun d i => lt_of_pre _ _ (hpre d) i) fun _ h => ⟨fun c => ⟨(h.1 c).2.1, (h.1 c).2.2⟩, h.2⟩

end Emb

end
-- ==== Proof.Take.lean ====
/-
  The reference: what its line of operations leaves, and that it is the kernel's result.
-/
module

public import proofs.«01_k».proof.Proof.Same
public import proofs.«01_k».proof.Proof.Gen.ReferenceIdeal
public import Idealize.ShloMosaic.Lib.StableHlo.Run
public import Idealize.ShloMosaic.Lib.Claim
public import Idealize.ShloMosaic.Lib.ReduceAll

@[expose] public section

noncomputable section

namespace Emb

open Idealize.ShloMosaic Idealize.SL Idealize.SL.Sem

open Cert.ReferenceIdeal Cert.ReferenceIdeal.Gen
open Idealize.ShloMosaic.ValueIdx

/-! ## The reference's term -/

/-- The indices after the negative ones are wrapped, with the axis that the gather reads its start index from. -/
def wrapped (x : IVec S16384x20 32) : IVec S16384x20x1 32 :=
  broadcastInDim S16384x20x1 ![0, 1] bcast_S16384x20_S16384x20x1_0_1
    (select (cmpi .slt x (broadcastInDim S16384x20 ![] bcast_S_S16384x20 (constantI S_ 32 0#32)))
      (addi x (broadcastInDim S16384x20 ![] bcast_S_S16384x20 (constantI S_ 32 367#32))) x)

/-- Which indices name a row. -/
def inRows (v : IVec S16384x20x1 32) : IVec S16384x20 1 :=
  Host.reduce IntOp.andi
    (andi (cmpi .sge v (broadcastInDim S16384x20x1 ![] bcast_S_S16384x20x1 (constantI S_ 32 0#32)))
      (cmpi .sle v (broadcastInDim S16384x20x1 ![0, 1, 2] bcast_S1x1x1_S16384x20x1_0_1_2 (broadcastInDim S1x1x1 ![2] bcast_S1_S1x1x1_2 (constantI S1 32 366#32)))))
    (constantI S_ 1 1#1) reducesTo_S16384x20x1_S16384x20_d2 h_S_

/-- The rows gathered, a fixed number where an index names none. -/
def taken (x : IVec S16384x20 32) (y : FVec Ideal S367x128 .f32) : FVec Ideal S16384x20x128 .f32 :=
  select (broadcastInDim S16384x20x128 ![0, 1] bcast_S16384x20_S16384x20x128_0_1 (inRows (wrapped x)))
    (Host.gather gather_S367x128_S16384x20x1_S16384x20x128_2_0_n_n_0_2_1128 y (wrapped x))
    (broadcastInDim S16384x20x128 ![] bcast_S_S16384x20x128 (constant S_ .f32 0x7FC00000#32))

theorem bit_true (p : Bool) : (BitVec.ofBool p = 1#1) = (p = true) := by cases p <;> decide

/-- A word below 367 is not negative, -/
theorem not_neg (v : BitVec 32) (h : v.toNat < 367) : ¬ IntOp.cmpi .slt v 0#32 = 1#1 := by
  simp only [IntOp.cmpi, bit_true, BitVec.slt_eq_decide, decide_eq_true_eq, BitVec.toInt_eq_toNat_cond, BitVec.toNat_ofNat, Nat.reducePow, Nat.reduceMod]
  omega
/-- is at least 0 -/
theorem is_sge (v : BitVec 32) (h : v.toNat < 367) : IntOp.cmpi .sge v 0#32 = 1#1 := by
  simp only [IntOp.cmpi, bit_true, BitVec.sle_eq_decide, decide_eq_true_eq, BitVec.toInt_eq_toNat_cond, BitVec.toNat_ofNat, Nat.reducePow, Nat.reduceMod]
  omega
/-- and at most 366. -/
theorem is_sle (v : BitVec 32) (h : v.toNat < 367) : IntOp.cmpi .sle v 366#32 = 1#1 := by
  simp only [IntOp.cmpi, bit_true, BitVec.sle_eq_decide, decide_eq_true_eq, BitVec.toInt_eq_toNat_cond, BitVec.toNat_ofNat, Nat.reducePow, Nat.reduceMod]
  omega

variable (x : IVec S16384x20 32) (hx : ∀ i, (x i).toNat < 367) (y : FVec Ideal S367x128 .f32)

include hx

theorem wrapped_apply (i : S16384x20x1.Idx) : wrapped x i = x (ix2 (i 0 : Fin 16384) (i 1 : Fin 20)) := by
  have e : wrapped x i = Scalar.select (IntOp.cmpi .slt (x (ix2 (i 0 : Fin 16384) (i 1 : Fin 20))) 0#32)
      (IntOp.addi (x (ix2 (i 0 : Fin 16384) (i 1 : Fin 20))) 367#32) (x (ix2 (i 0 : Fin 16384) (i 1 : Fin 20))) := by
    refine broadcastInDim_apply _ _ _ i (ix2 (i 0 : Fin 16384) (i 1 : Fin 20)) fun a => ?_
    match a with
    | 0 => rfl
    | 1 => rfl
  rw [e]
  exact if_neg (not_neg _ (hx _))

theorem inRows_apply (i : S16384x20.Idx) : inRows (wrapped x) i = 1#1 := by
  refine Host.reduce_andi_one _ _ _ _ _ rfl fun k => IntOp.andi_eq_one.2 ⟨?_, ?_⟩
  · have h := wrapped_apply x hx k
    exact (congrArg (fun v => IntOp.cmpi .sge v 0#32) h).trans (is_sge _ (hx _))
  · have h := wrapped_apply x hx k
    exact (congrArg (fun v => IntOp.cmpi .sle v 366#32) h).trans (is_sle _ (hx _))

/-- The gather reads the row that the index names. -/
theorem gathered_apply (i : S16384x20x128.Idx) :
    Host.gather gather_S367x128_S16384x20x1_S16384x20x128_2_0_n_n_0_2_1128 y (wrapped x) i
      = y (ix2 (⟨(x (ix2 (i 0 : Fin 16384) (i 1 : Fin 20))).toNat % 367, Nat.mod_lt _ (by decide)⟩ : Fin 367) (i 2 : Fin 128)) := by
  unfold Host.gather
  refine congrArg y (funext fun a => Fin.ext ?_)
  show GatherDims.start _ i (wrapped x) a + GatherDims.batchCoord _ i a + GatherDims.offCoord _ i a = _
  rw [GatherDims.batchCoord_eq_zero _ _ _ List.not_mem_nil, Nat.add_zero]
  match a with
  | 0 =>
    rw [GatherDims.offCoord_eq_zero _ _ _ (by decide), Nat.add_zero]
    unfold GatherDims.start
    rw [dif_pos (by decide), wrapped_apply x hx]
    have hi := hx (ix2 (i 0 : Fin 16384) (i 1 : Fin 20))
    show min (x (ix2 (i 0 : Fin 16384) (i 1 : Fin 20))).toInt.toNat 366 = (x (ix2 (i 0 : Fin 16384) (i 1 : Fin 20))).toNat % 367
    rw [BitVec.toInt_eq_toNat_cond]
    omega
  | 1 =>
    unfold GatherDims.start
    rw [dif_neg (by decide), Nat.zero_add]
    rfl

theorem taken_apply (i : S16384x20x128.Idx) :
    taken x y i = y (ix2 (⟨(x (ix2 (i 0 : Fin 16384) (i 1 : Fin 20))).toNat % 367, Nat.mod_lt _ (by decide)⟩ : Fin 367) (i 2 : Fin 128)) := by
  have hb : broadcastInDim S16384x20x128 ![0, 1] bcast_S16384x20_S16384x20x128_0_1 (inRows (wrapped x)) i = 1#1 := by
    unfold broadcastInDim
    exact inRows_apply x hx _
  unfold taken select
  rw [hb, gathered_apply x hx y i]
  exact if_pos rfl

omit hx

/-- The kernel's result is the reference's. -/
theorem taken_eq (m : (ℓ : Loc Cert.KernelIdeal.nD Cert.KernelIdeal.τ Cert.KernelIdeal.sig) → Buf (Elt Ideal) ℓ)
    (h : ∀ d (i : S16384x20.Idx), BitVec.toNat ((m (aLoc d) : S16384x20.Idx → Elt Ideal .i32) i) < 367) (d : Dev Cert.KernelIdeal.nD) :
    taken (m (aLoc d)) (m (pLoc d)) = Rv m d := by
  funext i
  rw [taken_apply _ (h d)]
  have e : Rv m d i = OUT (Tv m d) (Pv m d) (ix3 (i 1 : Fin 20) (i 0 : Fin 16384) (i 2 : Fin 128)) := by
    refine transpose_apply _ _ _ i (ix3 (i 1 : Fin 20) (i 0 : Fin 16384) (i 2 : Fin 128)) fun a => ?_
    match a with
    | 0 => rfl
    | 1 => rfl
    | 2 => rfl
  have e' : Tv m d (ix2 (i 1 : Fin 20) (i 0 : Fin 16384)) = (m (aLoc d) : S16384x20.Idx → Elt Ideal .i32) (ix2 (i 0 : Fin 16384) (i 1 : Fin 20)) := by
    refine transpose_apply _ _ _ (ix2 (i 1 : Fin 20) (i 0 : Fin 16384)) (ix2 (i 0 : Fin 16384) (i 1 : Fin 20)) fun a => ?_
    match a with
    | 0 => rfl
    | 1 => rfl
  rw [e]
  unfold OUT ent Pv
  show _ = (m (pLoc d) : S367x128.Idx → Elt Ideal .f32) (ix2 (⟨BitVec.toNat (Tv m d (ix2 (i 1 : Fin 20) (i 0 : Fin 16384))) % 367, _⟩ : Fin 367) (i 2 : Fin 128))
  simp only [e']

/-! ## The claims -/

/-- The reference ends with its arguments as they were. -/
theorem ref_kept (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) := by
  hlo_run

theorem frame_ref : Cert.quiescent_ReferenceIdeal := fun m ρ _ =>
  θ_run_mono (ref_kept m ρ) fun r h => ⟨h, sem_eq_zero_of_no_sems (by decide) r.2⟩

theorem frame_ref_pre : Cert.quiescent_ReferenceIdeal_pre_in_range := fun m ρ _ => frame_ref m ρ trivial

theorem value : Cert.algebraic_KernelIdeal_ReferenceIdeal := by
  intro m g m' g' hpre hagree
  have hlt := fun (d : Dev Cert.KernelIdeal.nD) i => lt_of_pre _ _ (hpre d) i
  refine ⟨fun c => Rv m c, θ_run_mono (run_main (F := Ideal) m g hlt) fun r h c => h.1 c, ?_⟩
  hlo_run
  simp -implicitDefEqProofs only [StableHlo.TRef.ofBuf_toBuf]
  simp -implicitDefEqProofs only [StableHlo.TRef.toBuf, StableHlo.TRef.ofBuf, cast_eq]
  exact taken_eq m hlt _

end Emb

end
-- ==== Proof.lean ====
/-
  The certificate's claim: the frames of the kernel, as printed and with exact floats, and of the reference; and that the
  kernel's result is the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_range
public import proofs.«01_k».proof.Proof.Take

@[expose] public section

noncomputable section

namespace Cert.Proof

theorem claim : Cert.Claim :=
  ⟨Cert.Kernel.Gen.facts, Cert.KernelIdeal.Gen.facts, Cert.ReferenceIdeal.Gen.facts, Cert.Pre_in_range.Gen.facts,
    Emb.frame_kernel, Emb.frame_ideal, Emb.frame_ref, Emb.frame_ref_pre, trivial, Emb.value⟩

end Cert.Proof

end
